-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_ties [hPre_finite_no_ties : Cert.Pre_finite_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_ties [hPre_finite_no_ties : Cert.Pre_finite_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_no_ties [hKernelIdeal : Cert.KernelIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_no_ties [hReferenceIdeal : Cert.ReferenceIdeal.Facts] [hPre_finite_no_ties : Cert.Pre_finite_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log_eps" .f32 0xC15D0C55#32 ((Real.log (8796093 / 8796093022208) : ℝ) : EReal)

def algebraic_KernelIdeal_ReferenceIdeal_pre_finite_no_ties [hKernelIdeal : Cert.KernelIdeal.Facts] [hReferenceIdeal : Cert.ReferenceIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_no_ties : Cert.Pre_finite_no_ties.Facts),
    quiescent_Kernel (hKernel := hKernel)
    ∧ quiescent_KernelIdeal (hKernelIdeal := hKernelIdeal)
    ∧ quiescent_KernelIdeal_pre_finite_no_ties (hKernelIdeal := hKernelIdeal) (hPre_finite_no_ties := hPre_finite_no_ties)
    ∧ quiescent_ReferenceIdeal (hReferenceIdeal := hReferenceIdeal)
    ∧ quiescent_ReferenceIdeal_pre_finite_no_ties (hReferenceIdeal := hReferenceIdeal) (hPre_finite_no_ties := hPre_finite_no_ties)
    ∧ preserves_Kernel_KernelIdeal
    ∧ algebraic_KernelIdeal_ReferenceIdeal_pre_finite_no_ties (hKernelIdeal := hKernelIdeal) (hReferenceIdeal := hReferenceIdeal) (hPre_finite_no_ties := hPre_finite_no_ties)
-- ==== Pre_finite_no_ties.lean ====
abbrev S512x2x1024 : Shape := ⟨3, ![512, 2, 1024]⟩
abbrev S2x512x512x64 : Shape := ⟨4, ![2, 512, 512, 64]⟩
abbrev S2x512x512 : Shape := ⟨3, ![2, 512, 512]⟩
abbrev S16x64 : Shape := ⟨2, ![16, 64]⟩
abbrev S16 : Shape := ⟨1, ![16]⟩
abbrev S1024x1024 : Shape := ⟨2, ![1024, 1024]⟩
abbrev S1024 : Shape := ⟨1, ![1024]⟩
abbrev S1024x1024x1x1 : Shape := ⟨4, ![1024, 1024, 1, 1]⟩
abbrev S2x512x1024 : Shape := ⟨3, ![2, 512, 1024]⟩
abbrev S524288x64 : Shape := ⟨2, ![524288, 64]⟩
abbrev S64x16 : Shape := ⟨2, ![64, 16]⟩
abbrev S524288x16 : Shape := ⟨2, ![524288, 16]⟩
abbrev S1x16 : Shape := ⟨2, ![1, 16]⟩
abbrev S_ : Shape := ⟨0, ![]⟩
abbrev S1x1024 : Shape := ⟨2, ![1, 1024]⟩
abbrev S2x512x16x64 : Shape := ⟨4, ![2, 512, 16, 64]⟩
abbrev S2x16x64x512 : Shape := ⟨4, ![2, 16, 64, 512]⟩
abbrev S32x64x512 : Shape := ⟨3, ![32, 64, 512]⟩
abbrev S2x16x512x64 : Shape := ⟨4, ![2, 16, 512, 64]⟩
abbrev S32x512x64 : Shape := ⟨3, ![32, 512, 64]⟩
abbrev S32x512x512 : Shape := ⟨3, ![32, 512, 512]⟩
abbrev S2x512x512x16 : Shape := ⟨4, ![2, 512, 512, 16]⟩
abbrev S2x16x512x512 : Shape := ⟨4, ![2, 16, 512, 512]⟩
abbrev S2x1x512x512 : Shape := ⟨4, ![2, 1, 512, 512]⟩
abbrev S2x1x16x512x512 : Shape := ⟨5, ![2, 1, 16, 512, 512]⟩
abbrev S32x512x11 : Shape := ⟨3, ![32, 512, 11]⟩
abbrev S32x512x10 : Shape := ⟨3, ![32, 512, 10]⟩

class Facts : Prop where
  transposes_S512x2x1024_S2x512x1024_1_0_2 : S512x2x1024.Transposes [1, 0, 2] S2x512x1024
  shapeCasts_S2x512x1024_S1024x1024 : S2x512x1024.ShapeCasts S1024x1024
  shapeCasts_S2x512x512x64_S524288x64 : S2x512x512x64.ShapeCasts S524288x64
  transposes_S16x64_S64x16_1_0 : S16x64.Transposes [1, 0] S64x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  shapeCasts_S1024x1024_S2x512x16x64 : S1024x1024.ShapeCasts S2x512x16x64
  transposes_S2x512x16x64_S2x16x64x512_0_2_3_1 : S2x512x16x64.Transposes [0, 2, 3, 1] S2x16x64x512
  shapeCasts_S2x16x64x512_S32x64x512 : S2x16x64x512.ShapeCasts S32x64x512
  transposes_S2x512x16x64_S2x16x512x64_0_2_1_3 : S2x512x16x64.Transposes [0, 2, 1, 3] S2x16x512x64
  shapeCasts_S2x16x512x64_S32x512x64 : S2x16x512x64.ShapeCasts S32x512x64
  bcast_S_S32x512x512 : S_.BroadcastsInDim S32x512x512 (![] : Fin 0 → Fin S32x512x512.rank)
  shapeCasts_S524288x16_S2x512x512x16 : S524288x16.ShapeCasts S2x512x512x16
  transposes_S2x512x512x16_S2x16x512x512_0_3_1_2 : S2x512x512x16.Transposes [0, 3, 1, 2] S2x16x512x512
  shapeCasts_S2x16x512x512_S32x512x512 : S2x16x512x512.ShapeCasts S32x512x512
  bcast_S_S2x512x512 : S_.BroadcastsInDim S2x512x512 (![] : Fin 0 → Fin S2x512x512.rank)
  bcast_S2x512x512_S2x1x512x512_0_2_3 : S2x512x512.BroadcastsInDim S2x1x512x512 (![0, 2, 3] : Fin 3 → Fin S2x1x512x512.rank)
  bcast_S2x1x512x512_S2x1x16x512x512_0_1_3_4 : S2x1x512x512.BroadcastsInDim S2x1x16x512x512 (![0, 1, 3, 4] : Fin 4 → Fin S2x1x16x512x512.rank)
  shapeCasts_S2x1x16x512x512_S2x16x512x512 : S2x1x16x512x512.ShapeCasts S2x16x512x512
  sliceFits_S32x512x512_S32x512x11 : S32x512x512.Slices (fun _ => 0) S32x512x11
  bcast_S_S512x2x1024 : S_.BroadcastsInDim S512x2x1024 (![] : Fin 0 → Fin S512x2x1024.rank)
  bcast_S_S2x512x512x64 : S_.BroadcastsInDim S2x512x512x64 (![] : Fin 0 → Fin S2x512x512x64.rank)
  bcast_S_S16x64 : S_.BroadcastsInDim S16x64 (![] : Fin 0 → Fin S16x64.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x1024x1x1 : S_.BroadcastsInDim S1024x1024x1x1 (![] : Fin 0 → Fin S1024x1024x1x1.rank)
  slices_S32x512x11_S32x512x10_0_0_0 : S32x512x11.Slices ![0, 0, 0] S32x512x10
  slices_S32x512x11_S32x512x10_0_0_1 : S32x512x11.Slices ![0, 0, 1] S32x512x10
  dot_S524288x64_S64x16_S524288x16_1_0_0_1_n_n_wf : DotDims.WF S524288x64 S64x16 S524288x16 [1] [0] [0] [1] [] []
  dot_S1024x1024_S1024x1024_S1024x1024_1_0_0_1_n_n_wf : DotDims.WF S1024x1024 S1024x1024 S1024x1024 [1] [0] [0] [1] [] []
  dot_S32x512x64_S32x64x512_S32x512x512_2_1_1_2_0_0_wf : DotDims.WF S32x512x64 S32x64x512 S32x512x512 [2] [1] [1] [2] [0] [0]

variable [Facts]

def dot_S524288x64_S64x16_S524288x16_1_0_0_1_n_n : DotDims S524288x64 S64x16 S524288x16 where
  lhsContracting := [1]
  rhsContracting := [0]
  lhsNonContracting := [0]
  rhsNonContracting := [1]
  lhsBatch := []
  rhsBatch := []
  wf := dot_S524288x64_S64x16_S524288x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S32x512x64_S32x64x512_S32x512x512_2_1_1_2_0_0 : DotDims S32x512x64 S32x64x512 S32x512x512 where
  lhsContracting := [2]
  rhsContracting := [1]
  lhsNonContracting := [1]
  rhsNonContracting := [2]
  lhsBatch := [0]
  rhsBatch := [0]
  wf := dot_S32x512x64_S32x64x512_S32x512x512_2_1_1_2_0_0_wf
def fn_part3 {F : FTy → Type} [FloatOps F] (main_arg7 : FVec F S1024x1024 .f32) (main_arg8 : FVec F S1024 .f32) (main_arg9 : FVec F S1024x1024x1x1 .f32) (main_values : FVec F S32x512x11 .f32) (main_v50 : IVec S512x2x1024 1) (main_v53 : IVec S2x512x512x64 1) (main_v56 : IVec S16x64 1) (main_v59 : IVec S1024x1024 1) : IVec S512x2x1024 1 × IVec S2x512x512x64 1 × IVec S16x64 1 × IVec S1024x1024 1 × IVec S1024x1024 1 × IVec S1024 1 × IVec S1024x1024x1x1 1 × IVec S32x512x10 1 :=
  let main_v60 : FVec F S1024x1024 .f32 := Host.absf main_arg7
  let main_cst_9 : FVec F S_ .f32 := constant S_ .f32 0x7F800000#32
  let main_v61 : FVec F S1024x1024 .f32 := broadcastInDim S1024x1024 ![] bcast_S_S1024x1024 main_cst_9
  let main_v62 : IVec S1024x1024 1 := cmpf .olt main_v60 main_v61
  let main_v63 : FVec F S1024 .f32 := Host.absf main_arg8
  let main_cst_10 : FVec F S_ .f32 := constant S_ .f32 0x7F800000#32
  let main_v64 : FVec F S1024 .f32 := broadcastInDim S1024 ![] bcast_S_S1024 main_cst_10
  let main_v65 : IVec S1024 1 := cmpf .olt main_v63 main_v64
  let main_v66 : FVec F S1024x1024x1x1 .f32 := Host.absf main_arg9
  let main_cst_11 : FVec F S_ .f32 := constant S_ .f32 0x7F800000#32
  let main_v67 : FVec F S1024x1024x1x1 .f32 := broadcastInDim S1024x1024x1x1 ![] bcast_S_S1024x1024x1x1 main_cst_11
  let main_v68 : IVec S1024x1024x1x1 1 := cmpf .olt main_v66 main_v67
  let main_v69 : FVec F S32x512x10 .f32 := (extractStridedSlice S32x512x10 ![0, 0, 0] · slices_S32x512x11_S32x512x10_0_0_0) main_values
  let main_v70 : FVec F S32x512x10 .f32 := (extractStridedSlice S32x512x10 ![0, 0, 1] · slices_S32x512x11_S32x512x10_0_0_1) main_values
  let main_v71 : IVec S32x512x10 1 := cmpf .ogt main_v69 main_v70
  (main_v50, main_v53, main_v56, main_v59, main_v62, main_v65, main_v68, main_v71)

def fn_part2 {F : FTy → Type} [FloatOps F] (main_arg0 : FVec F S512x2x1024 .f32) (main_arg1 : FVec F S2x512x512x64 .f32) (main_arg3 : FVec F S16x64 .f32) (main_arg5 : FVec F S1024x1024 .f32) (main_arg7 : FVec F S1024x1024 .f32) (main_arg8 : FVec F S1024 .f32) (main_arg9 : FVec F S1024x1024x1x1 .f32) (main_v28 : FVec F S32x512x512 .f32) (main_v31 : FVec F S32x512x512 .f32) (main_v42 : FVec F S32x512x512 .f32) : IVec S512x2x1024 1 × IVec S2x512x512x64 1 × IVec S16x64 1 × IVec S1024x1024 1 × IVec S1024x1024 1 × IVec S1024 1 × IVec S1024x1024x1x1 1 × IVec S32x512x10 1 :=
  let main_cst_4 : FVec F S_ .f32 := constant S_ .f32 0x358637BD#32
  let main_v43 : FVec F S32x512x512 .f32 := broadcastInDim S32x512x512 ![] bcast_S_S32x512x512 main_cst_4
  let main_v44 : FVec F S32x512x512 .f32 := maximumf main_v31 main_v43
  let main_v45 : FVec F S32x512x512 .f32 := Host.log main_v44
  let main_v46 : FVec F S32x512x512 .f32 := addf main_v45 main_v28
  let main_v47 : FVec F S32x512x512 .f32 := addf main_v46 main_v42
  let main_values : FVec F S32x512x11 .f32 := (fun x => (Host.topK S32x512x11 2 (FloatOps.cmpfTotal .gt) x sliceFits_S32x512x512_S32x512x11).1) main_v47
  let main_indices : IVec S32x512x11 32 := (fun x => (Host.topK S32x512x11 2 (FloatOps.cmpfTotal .gt) x sliceFits_S32x512x512_S32x512x11).2) main_v47
  let main_v48 : FVec F S512x2x1024 .f32 := Host.absf main_arg0
  let main_cst_5 : FVec F S_ .f32 := constant S_ .f32 0x7F800000#32
  let main_v49 : FVec F S512x2x1024 .f32 := broadcastInDim S512x2x1024 ![] bcast_S_S512x2x1024 main_cst_5
  let main_v50 : IVec S512x2x1024 1 := cmpf .olt main_v48 main_v49
  let main_v51 : FVec F S2x512x512x64 .f32 := Host.absf main_arg1
  let main_cst_6 : FVec F S_ .f32 := constant S_ .f32 0x7F800000#32
  let main_v52 : FVec F S2x512x512x64 .f32 := broadcastInDim S2x512x512x64 ![] bcast_S_S2x512x512x64 main_cst_6
  let main_v53 : IVec S2x512x512x64 1 := cmpf .olt main_v51 main_v52
  let main_v54 : FVec F S16x64 .f32 := Host.absf main_arg3
  let main_cst_7 : FVec F S_ .f32 := constant S_ .f32 0x7F800000#32
  let main_v55 : FVec F S16x64 .f32 := broadcastInDim S16x64 ![] bcast_S_S16x64 main_cst_7
  let main_v56 : IVec S16x64 1 := cmpf .olt main_v54 main_v55
  let main_v57 : FVec F S1024x1024 .f32 := Host.absf main_arg5
  let main_cst_8 : FVec F S_ .f32 := constant S_ .f32 0x7F800000#32
  let main_v58 : FVec F S1024x1024 .f32 := broadcastInDim S1024x1024 ![] bcast_S_S1024x1024 main_cst_8
  let main_v59 : IVec S1024x1024 1 := cmpf .olt main_v57 main_v58
  fn_part3 (F := F) main_arg7 main_arg8 main_arg9 main_values main_v50 main_v53 main_v56 main_v59

def fn_part1 {F : FTy → Type} [FloatOps F] (main_arg0 : FVec F S512x2x1024 .f32) (main_arg1 : FVec F S2x512x512x64 .f32) (main_arg2 : FVec F S2x512x512 .f32) (main_arg3 : FVec F S16x64 .f32) (main_arg5 : FVec F S1024x1024 .f32) (main_arg7 : FVec F S1024x1024 .f32) (main_arg8 : FVec F S1024 .f32) (main_arg9 : FVec F S1024x1024x1x1 .f32) (main_v9 : FVec F S524288x16 .f32) (main_v17 : FVec F S32x64x512 .f32) (main_v22 : FVec F S1024x1024 .f32) : IVec S512x2x1024 1 × IVec S2x512x512x64 1 × IVec S16x64 1 × IVec S1024x1024 1 × IVec S1024x1024 1 × IVec S1024 1 × IVec S1024x1024x1x1 1 × IVec S32x512x10 1 :=
  let main_v23 : FVec F S2x512x16x64 .f32 := shapeCast S2x512x16x64 main_v22 shapeCasts_S1024x1024_S2x512x16x64
  let main_v24 : FVec F S2x16x512x64 .f32 := (transpose S2x16x512x64 [0, 2, 1, 3] · transposes_S2x512x16x64_S2x16x512x64_0_2_1_3) main_v23
  let main_v25 : FVec F S32x512x64 .f32 := shapeCast S32x512x64 main_v24 shapeCasts_S2x16x512x64_S32x512x64
  let main_v26 : FVec F S32x512x512 .f32 := (fun l r => Host.dotGeneral dot_S32x512x64_S32x64x512_S32x512x512_2_1_1_2_0_0 none l r) main_v25 main_v17
  let main_cst_0 : FVec F S_ .f32 := constant S_ .f32 0x3E000000#32
  let main_v27 : FVec F S32x512x512 .f32 := broadcastInDim S32x512x512 ![] bcast_S_S32x512x512 main_cst_0
  let main_v28 : FVec F S32x512x512 .f32 := mulf main_v27 main_v26
  let main_v29 : FVec F S2x512x512x16 .f32 := shapeCast S2x512x512x16 main_v9 shapeCasts_S524288x16_S2x512x512x16
  let main_v30 : FVec F S2x16x512x512 .f32 := (transpose S2x16x512x512 [0, 3, 1, 2] · transposes_S2x512x512x16_S2x16x512x512_0_3_1_2) main_v29
  let main_v31 : FVec F S32x512x512 .f32 := shapeCast S32x512x512 main_v30 shapeCasts_S2x16x512x512_S32x512x512
  let main_cst_1 : FVec F S_ .f32 := constant S_ .f32 0x358637BD#32
  let main_v32 : FVec F S2x512x512 .f32 := broadcastInDim S2x512x512 ![] bcast_S_S2x512x512 main_cst_1
  let main_v33 : IVec S2x512x512 1 := cmpf .oge main_arg2 main_v32
  let main_cst_2 : FVec F S_ .f32 := constant S_ .f32 0x3F800000#32
  let main_v34 : FVec F S2x512x512 .f32 := broadcastInDim S2x512x512 ![] bcast_S_S2x512x512 main_cst_2
  let main_v35 : FVec F S2x512x512 .f32 := select main_v33 main_v34 main_arg2
  let main_cst_3 : FVec F S_ .f32 := constant S_ .f32 0x358637BD#32
  let main_v36 : FVec F S2x512x512 .f32 := broadcastInDim S2x512x512 ![] bcast_S_S2x512x512 main_cst_3
  let main_v37 : FVec F S2x512x512 .f32 := maximumf main_v35 main_v36
  let main_v38 : FVec F S2x512x512 .f32 := Host.log main_v37
  let main_v39 : FVec F S2x1x512x512 .f32 := broadcastInDim S2x1x512x512 ![0, 2, 3] bcast_S2x512x512_S2x1x512x512_0_2_3 main_v38
  let main_v40 : FVec F S2x1x16x512x512 .f32 := broadcastInDim S2x1x16x512x512 ![0, 1, 3, 4] bcast_S2x1x512x512_S2x1x16x512x512_0_1_3_4 main_v39
  let main_v41 : FVec F S2x16x512x512 .f32 := shapeCast S2x16x512x512 main_v40 shapeCasts_S2x1x16x512x512_S2x16x512x512
  let main_v42 : FVec F S32x512x512 .f32 := shapeCast S32x512x512 main_v41 shapeCasts_S2x16x512x512_S32x512x512
  fn_part2 (F := F) main_arg0 main_arg1 main_arg3 main_arg5 main_arg7 main_arg8 main_arg9 main_v28 main_v31 main_v42

def fn {F : FTy → Type} [FloatOps F] (main_arg0 : FVec F S512x2x1024 .f32) (main_arg1 : FVec F S2x512x512x64 .f32) (main_arg2 : FVec F S2x512x512 .f32) (main_arg3 : FVec F S16x64 .f32) (main_arg4 : FVec F S16 .f32) (main_arg5 : FVec F S1024x1024 .f32) (main_arg6 : FVec F S1024 .f32) (main_arg7 : FVec F S1024x1024 .f32) (main_arg8 : FVec F S1024 .f32) (main_arg9 : FVec F S1024x1024x1x1 .f32) (main_arg10 : FVec F S1024 .f32) : IVec S512x2x1024 1 × IVec S2x512x512x64 1 × IVec S16x64 1 × IVec S1024x1024 1 × IVec S1024x1024 1 × IVec S1024 1 × IVec S1024x1024x1x1 1 × IVec S32x512x10 1 :=
  let main_v0 : FVec F S2x512x1024 .f32 := (transpose S2x512x1024 [1, 0, 2] · transposes_S512x2x1024_S2x512x1024_1_0_2) main_arg0
  let main_v1 : FVec F S1024x1024 .f32 := shapeCast S1024x1024 main_v0 shapeCasts_S2x512x1024_S1024x1024
  let main_v2 : FVec F S524288x64 .f32 := shapeCast S524288x64 main_arg1 shapeCasts_S2x512x512x64_S524288x64
  let main_v3 : FVec F S64x16 .f32 := (transpose S64x16 [1, 0] · transposes_S16x64_S64x16_1_0) main_arg3
  let main_v4 : FVec F S524288x16 .f32 := (fun l r => Host.dotGeneral dot_S524288x64_S64x16_S524288x16_1_0_0_1_n_n none l r) main_v2 main_v3
  let main_v5 : FVec F S1x16 .f32 := broadcastInDim S1x16 ![1] bcast_S16_S1x16_1 main_arg4
  let main_v6 : FVec F S524288x16 .f32 := broadcastInDim S524288x16 ![0, 1] bcast_S1x16_S524288x16_0_1 main_v5
  let main_v7 : FVec F S524288x16 .f32 := addf main_v4 main_v6
  let main_cst : FVec F S_ .f32 := constant S_ .f32 0x00000000#32
  let main_v8 : FVec F S524288x16 .f32 := broadcastInDim S524288x16 ![] bcast_S_S524288x16 main_cst
  let main_v9 : FVec F S524288x16 .f32 := maximumf main_v7 main_v8
  let main_v10 : FVec F S1024x1024 .f32 := (transpose S1024x1024 [1, 0] · transposes_S1024x1024_S1024x1024_1_0) main_arg5
  let main_v11 : FVec F S1024x1024 .f32 := (fun l r => Host.dotGeneral dot_S1024x1024_S1024x1024_S1024x1024_1_0_0_1_n_n none l r) main_v1 main_v10
  let main_v12 : FVec F S1x1024 .f32 := broadcastInDim S1x1024 ![1] bcast_S1024_S1x1024_1 main_arg6
  let main_v13 : FVec F S1024x1024 .f32 := broadcastInDim S1024x1024 ![0, 1] bcast_S1x1024_S1024x1024_0_1 main_v12
  let main_v14 : FVec F S1024x1024 .f32 := addf main_v11 main_v13
  let main_v15 : FVec F S2x512x16x64 .f32 := shapeCast S2x512x16x64 main_v14 shapeCasts_S1024x1024_S2x512x16x64
  let main_v16 : FVec F S2x16x64x512 .f32 := (transpose S2x16x64x512 [0, 2, 3, 1] · transposes_S2x512x16x64_S2x16x64x512_0_2_3_1) main_v15
  let main_v17 : FVec F S32x64x512 .f32 := shapeCast S32x64x512 main_v16 shapeCasts_S2x16x64x512_S32x64x512
  let main_v18 : FVec F S1024x1024 .f32 := (transpose S1024x1024 [1, 0] · transposes_S1024x1024_S1024x1024_1_0) main_arg7
  let main_v19 : FVec F S1024x1024 .f32 := (fun l r => Host.dotGeneral dot_S1024x1024_S1024x1024_S1024x1024_1_0_0_1_n_n none l r) main_v1 main_v18
  let main_v20 : FVec F S1x1024 .f32 := broadcastInDim S1x1024 ![1] bcast_S1024_S1x1024_1 main_arg8
  let main_v21 : FVec F S1024x1024 .f32 := broadcastInDim S1024x1024 ![0, 1] bcast_S1x1024_S1024x1024_0_1 main_v20
  let main_v22 : FVec F S1024x1024 .f32 := addf main_v19 main_v21
  fn_part1 (F := F) main_arg0 main_arg1 main_arg2 main_arg3 main_arg5 main_arg7 main_arg8 main_arg9 main_v9 main_v17 main_v22
-- ==== Kernel.lean ====
abbrev S512x2x1024 : Shape := ⟨3, ![512, 2, 1024]⟩
abbrev S2x512x512x64 : Shape := ⟨4, ![2, 512, 512, 64]⟩
abbrev S2x512x512 : Shape := ⟨3, ![2, 512, 512]⟩
abbrev S16x64 : Shape := ⟨2, ![16, 64]⟩
abbrev S16 : Shape := ⟨1, ![16]⟩
abbrev S1024x1024 : Shape := ⟨2, ![1024, 1024]⟩
abbrev S1024 : Shape := ⟨1, ![1024]⟩
abbrev S1024x1024x1x1 : Shape := ⟨4, ![1024, 1024, 1, 1]⟩
abbrev S2x512x1024 : Shape := ⟨3, ![2, 512, 1024]⟩
abbrev S1x1024 : Shape := ⟨2, ![1, 1024]⟩
abbrev S1024x1 : Shape := ⟨2, ![1024, 1]⟩
abbrev S2x16x512x64 : Shape := ⟨4, ![2, 16, 512, 64]⟩
abbrev S2x262144x64 : Shape := ⟨3, ![2, 262144, 64]⟩
abbrev S64x16 : Shape := ⟨2, ![64, 16]⟩
abbrev S1x16 : Shape := ⟨2, ![1, 16]⟩
abbrev S512x2048 : Shape := ⟨2, ![512, 2048]⟩
abbrev S512x1024 : Shape := ⟨2, ![512, 1024]⟩
abbrev S512x16x64 : Shape := ⟨3, ![512, 16, 64]⟩
abbrev S16x512x64 : Shape := ⟨3, ![16, 512, 64]⟩
abbrev S1x16x512x64 : Shape := ⟨4, ![1, 16, 512, 64]⟩
abbrev S1x32768x64 : Shape := ⟨3, ![1, 32768, 64]⟩
abbrev S1x64x512 : Shape := ⟨3, ![1, 64, 512]⟩
abbrev S64x1024 : Shape := ⟨2, ![64, 1024]⟩
abbrev S1024x512 : Shape := ⟨2, ![1024, 512]⟩
abbrev S32768x64 : Shape := ⟨2, ![32768, 64]⟩
abbrev S32768x16 : Shape := ⟨2, ![32768, 16]⟩
abbrev S64x512x16 : Shape := ⟨3, ![64, 512, 16]⟩
abbrev S16x64x512 : Shape := ⟨3, ![16, 64, 512]⟩
abbrev S64x16x64 : Shape := ⟨3, ![64, 16, 64]⟩
abbrev S16x64x64 : Shape := ⟨3, ![16, 64, 64]⟩
abbrev S64x512 : Shape := ⟨2, ![64, 512]⟩
abbrev S16x64x1 : Shape := ⟨3, ![16, 64, 1]⟩

abbrev nBuf : Space → Nat
  | .hbm => 28
  | .vmem => 25
  | .smem => 0
  | _ => 0

abbrev bufTy : (tb : Table) → Fin (tcTables nBuf tb) → BufTy
  | .hbm, ⟨0, _⟩ => ⟨S512x2x1024, .f32⟩
  | .hbm, ⟨1, _⟩ => ⟨S2x512x512x64, .f32⟩
  | .hbm, ⟨2, _⟩ => ⟨S2x512x512, .f32⟩
  | .hbm, ⟨3, _⟩ => ⟨S16x64, .f32⟩
  | .hbm, ⟨4, _⟩ => ⟨S16, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024x1x1, .f32⟩
  | .hbm, ⟨10, _⟩ => ⟨S1024, .f32⟩
  | .hbm, ⟨11, _⟩ => ⟨S2x512x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S2x16x512x64, .f32⟩
  | .hbm, ⟨22, _⟩ => ⟨S2x262144x64, .f32⟩
  | .hbm, ⟨23, _⟩ => ⟨S64x16, .f32⟩
  | .hbm, ⟨24, _⟩ => ⟨S1x16, .f32⟩
  | .hbm, ⟨25, _⟩ => ⟨S1x1024, .f32⟩
  | .hbm, ⟨26, _⟩ => ⟨S512x2048, .f32⟩
  | .hbm, ⟨27, _⟩ => ⟨S512x2x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S2x16x512x64, .f32⟩
  | .local _ .vmem, ⟨10, _⟩ => ⟨S1x32768x64, .f32⟩
  | .local _ .vmem, ⟨11, _⟩ => ⟨S1x32768x64, .f32⟩
  | .local _ .vmem, ⟨12, _⟩ => ⟨S1x64x512, .f32⟩
  | .local _ .vmem, ⟨13, _⟩ => ⟨S1x64x512, .f32⟩
  | .local _ .vmem, ⟨14, _⟩ => ⟨S64x1024, .f32⟩
  | .local _ .vmem, ⟨15, _⟩ => ⟨S64x1024, .f32⟩
  | .local _ .vmem, ⟨16, _⟩ => ⟨S1024x512, .f32⟩
  | .local _ .vmem, ⟨17, _⟩ => ⟨S1024x512, .f32⟩
  | .local _ .vmem, ⟨18, _⟩ => ⟨S1x16x512x64, .f32⟩
  | .local _ .vmem, ⟨19, _⟩ => ⟨S1x16x512x64, .f32⟩
  | .local _ .vmem, ⟨20, _⟩ => ⟨S64x16, .f32⟩
  | .local _ .vmem, ⟨21, _⟩ => ⟨S1x16, .f32⟩
  | .local _ .vmem, ⟨22, _⟩ => ⟨S1x1024, .f32⟩
  | .local _ .vmem, ⟨23, _⟩ => ⟨S64x1024, .f32⟩
  | .local _ .vmem, ⟨24, _⟩ => ⟨S64x1024, .f32⟩
  | _, _ => ⟨S512x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8_0 : Ref sig .tc := ⟨.hbm, 19, rfl⟩
abbrev main_call0_v8_1 : Ref sig .tc := ⟨.hbm, 20, rfl⟩
abbrev main_call0_v8_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x32768x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "log_eps" => some ((Real.log (8796093 / 8796093022208) : ℝ) : EReal)
  | _ => none
-- ==== ReferenceIdeal.lean ====
abbrev S512x2x1024 : Shape := ⟨3, ![512, 2, 1024]⟩
abbrev S2x512x512x64 : Shape := ⟨4, ![2, 512, 512, 64]⟩
abbrev S2x512x512 : Shape := ⟨3, ![2, 512, 512]⟩
abbrev S16x64 : Shape := ⟨2, ![16, 64]⟩
abbrev S16 : Shape := ⟨1, ![16]⟩
abbrev S1024x1024 : Shape := ⟨2, ![1024, 1024]⟩
abbrev S1024 : Shape := ⟨1, ![1024]⟩
abbrev S1024x1024x1x1 : Shape := ⟨4, ![1024, 1024, 1, 1]⟩
abbrev S2x512x1024 : Shape := ⟨3, ![2, 512, 1024]⟩
abbrev S524288x64 : Shape := ⟨2, ![524288, 64]⟩
abbrev S64x16 : Shape := ⟨2, ![64, 16]⟩
abbrev S524288x16 : Shape := ⟨2, ![524288, 16]⟩
abbrev S1x16 : Shape := ⟨2, ![1, 16]⟩
abbrev S_ : Shape := ⟨0, ![]⟩
abbrev S1x1024 : Shape := ⟨2, ![1, 1024]⟩
abbrev S2x512x16x64 : Shape := ⟨4, ![2, 512, 16, 64]⟩
abbrev S2x16x64x512 : Shape := ⟨4, ![2, 16, 64, 512]⟩
abbrev S32x64x512 : Shape := ⟨3, ![32, 64, 512]⟩
abbrev S2x16x512x64 : Shape := ⟨4, ![2, 16, 512, 64]⟩
abbrev S32x512x64 : Shape := ⟨3, ![32, 512, 64]⟩
abbrev S32x512x512 : Shape := ⟨3, ![32, 512, 512]⟩
abbrev S2x512x512x16 : Shape := ⟨4, ![2, 512, 512, 16]⟩
abbrev S2x16x512x512 : Shape := ⟨4, ![2, 16, 512, 512]⟩
abbrev S2x1x512x512 : Shape := ⟨4, ![2, 1, 512, 512]⟩
abbrev S2x1x16x512x512 : Shape := ⟨5, ![2, 1, 16, 512, 512]⟩
abbrev S32x512x10 : Shape := ⟨3, ![32, 512, 10]⟩
abbrev S32x512 : Shape := ⟨2, ![32, 512]⟩
abbrev S32x512x1 : Shape := ⟨3, ![32, 512, 1]⟩
abbrev S32 : Shape := ⟨1, ![32]⟩
abbrev S32x1x1 : Shape := ⟨3, ![32, 1, 1]⟩
abbrev S512 : Shape := ⟨1, ![512]⟩
abbrev S1x512x1 : Shape := ⟨3, ![1, 512, 1]⟩
abbrev S32x512x10x1 : Shape := ⟨4, ![32, 512, 10, 1]⟩
abbrev S32x512x10x3 : Shape := ⟨4, ![32, 512, 10, 3]⟩
abbrev S2x8192x512 : Shape := ⟨3, ![2, 8192, 512]⟩
abbrev S2x8192x1024 : Shape := ⟨3, ![2, 8192, 1024]⟩
abbrev S2x16x512x1024 : Shape := ⟨4, ![2, 16, 512, 1024]⟩
abbrev S16x1024x512x2 : Shape := ⟨4, ![16, 1024, 512, 2]⟩
abbrev S1x16384x512x2 : Shape := ⟨4, ![1, 16384, 512, 2]⟩
abbrev S16384x512x2 : Shape := ⟨3, ![16384, 512, 2]⟩
abbrev S16x64x1024 : Shape := ⟨3, ![16, 64, 1024]⟩
abbrev S16x64x512x2 : Shape := ⟨4, ![16, 64, 512, 2]⟩
abbrev S1024x512x2 : Shape := ⟨3, ![1024, 512, 2]⟩
abbrev S1024x1x1 : Shape := ⟨3, ![1024, 1, 1]⟩

abbrev nBuf : Space → Nat
  | .hbm => 131
  | .vmem => 0
  | .smem => 0
  | _ => 0

abbrev hbmTy0_0 (i : Nat) : BufTy := match i % 128 with
  | 0 => ⟨S512x2x1024, .f32⟩
  | 1 => ⟨S2x512x512x64, .f32⟩
  | 2 => ⟨S2x512x512, .f32⟩
  | 3 => ⟨S16x64, .f32⟩
  | 4 => ⟨S16, .f32⟩
  | 5 => ⟨S1024x1024, .f32⟩
  | 6 => ⟨S1024, .f32⟩
  | 7 => ⟨S1024x1024, .f32⟩
  | 8 => ⟨S1024, .f32⟩
  | 9 => ⟨S1024x1024x1x1, .f32⟩
  | 10 => ⟨S1024, .f32⟩
  | 11 => ⟨S2x512x1024, .f32⟩
  | 12 => ⟨S2x512x1024, .f32⟩
  | 13 => ⟨S1024x1024, .f32⟩
  | 14 => ⟨S524288x64, .f32⟩
  | 15 => ⟨S64x16, .f32⟩
  | 16 => ⟨S524288x16, .f32⟩
  | 17 => ⟨S1x16, .f32⟩
  | 18 => ⟨S524288x16, .f32⟩
  | 19 => ⟨S524288x16, .f32⟩
  | 20 => ⟨S_, .f32⟩
  | 21 => ⟨S524288x16, .f32⟩
  | 22 => ⟨S524288x16, .f32⟩
  | 23 => ⟨S1024x1024, .f32⟩
  | 24 => ⟨S1024x1024, .f32⟩
  | 25 => ⟨S1x1024, .f32⟩
  | 26 => ⟨S1024x1024, .f32⟩
  | 27 => ⟨S1024x1024, .f32⟩
  | 28 => ⟨S2x512x16x64, .f32⟩
  | 29 => ⟨S2x16x64x512, .f32⟩
  | 30 => ⟨S32x64x512, .f32⟩
  | 31 => ⟨S1024x1024, .f32⟩
  | 32 => ⟨S1024x1024, .f32⟩
  | 33 => ⟨S1x1024, .f32⟩
  | 34 => ⟨S1024x1024, .f32⟩
  | 35 => ⟨S1024x1024, .f32⟩
  | 36 => ⟨S2x512x16x64, .f32⟩
  | 37 => ⟨S2x16x512x64, .f32⟩
  | 38 => ⟨S32x512x64, .f32⟩
  | 39 => ⟨S32x512x512, .f32⟩
  | 40 => ⟨S_, .f32⟩
  | 41 => ⟨S32x512x512, .f32⟩
  | 42 => ⟨S32x512x512, .f32⟩
  | 43 => ⟨S2x512x512x16, .f32⟩
  | 44 => ⟨S2x16x512x512, .f32⟩
  | 45 => ⟨S32x512x512, .f32⟩
  | 46 => ⟨S_, .f32⟩
  | 47 => ⟨S2x512x512, .f32⟩
  | 48 => ⟨S2x512x512, .i1⟩
  | 49 => ⟨S_, .f32⟩
  | 50 => ⟨S2x512x512, .f32⟩
  | 51 => ⟨S2x512x512, .f32⟩
  | 52 => ⟨S_, .f32⟩
  | 53 => ⟨S2x512x512, .f32⟩
  | 54 => ⟨S2x512x512, .f32⟩
  | 55 => ⟨S2x512x512, .f32⟩
  | 56 => ⟨S2x1x512x512, .f32⟩
  | 57 => ⟨S2x1x16x512x512, .f32⟩
  | 58 => ⟨S2x16x512x512, .f32⟩
  | 59 => ⟨S32x512x512, .f32⟩
  | 60 => ⟨S_, .f32⟩
  | 61 => ⟨S32x512x512, .f32⟩
  | 62 => ⟨S32x512x512, .f32⟩
  | 63 => ⟨S32x512x512, .f32⟩
  | 64 => ⟨S32x512x512, .f32⟩
  | 65 => ⟨S32x512x512, .f32⟩
  | 66 => ⟨S32x512x10, .f32⟩
  | 67 => ⟨S32x512x10, .i32⟩
  | 68 => ⟨S_, .f32⟩
  | 69 => ⟨S32x512, .f32⟩
  | 70 => ⟨S_, .f32⟩
  | 71 => ⟨S32x512, .f32⟩
  | 72 => ⟨S32x512, .f32⟩
  | 73 => ⟨S32x512x1, .f32⟩
  | 74 => ⟨S32x512x10, .f32⟩
  | 75 => ⟨S32x512x10, .f32⟩
  | 76 => ⟨S32x512x10, .f32⟩
  | 77 => ⟨S_, .f32⟩
  | 78 => ⟨S32x512, .f32⟩
  | 79 => ⟨S32x512x1, .f32⟩
  | 80 => ⟨S32x512x10, .f32⟩
  | 81 => ⟨S32x512x10, .f32⟩
  | 82 => ⟨S32, .i32⟩
  | 83 => ⟨S32x1x1, .i32⟩
  | 84 => ⟨S512, .i32⟩
  | 85 => ⟨S1x512x1, .i32⟩
  | 86 => ⟨S_, .f32⟩
  | 87 => ⟨S32x512x512, .f32⟩
  | 88 => ⟨S_, .i32⟩
  | 89 => ⟨S32x1x1, .i32⟩
  | 90 => ⟨S32x1x1, .i1⟩
  | 91 => ⟨S_, .i32⟩
  | 92 => ⟨S32x1x1, .i32⟩
  | 93 => ⟨S32x1x1, .i32⟩
  | 94 => ⟨S32x1x1, .i32⟩
  | 95 => ⟨S_, .i32⟩
  | 96 => ⟨S1x512x1, .i32⟩
  | 97 => ⟨S1x512x1, .i1⟩
  | 98 => ⟨S_, .i32⟩
  | 99 => ⟨S1x512x1, .i32⟩
  | 100 => ⟨S1x512x1, .i32⟩
  | 101 => ⟨S1x512x1, .i32⟩
  | 102 => ⟨S_, .i32⟩
  | 103 => ⟨S32x512x10, .i32⟩
  | 104 => ⟨S32x512x10, .i1⟩
  | 105 => ⟨S_, .i32⟩
  | 106 => ⟨S32x512x10, .i32⟩
  | 107 => ⟨S32x512x10, .i32⟩
  | 108 => ⟨S32x512x10, .i32⟩
  | 109 => ⟨S32x512x10, .i32⟩
  | 110 => ⟨S32x512x10, .i32⟩
  | 111 => ⟨S32x512x10x1, .i32⟩
  | 112 => ⟨S32x512x10x1, .i32⟩
  | 113 => ⟨S32x512x10x1, .i32⟩
  | 114 => ⟨S32x512x10x3, .i32⟩
  | 115 => ⟨S32x512x512, .f32⟩
  | 116 => ⟨S2x8192x512, .f32⟩
  | 117 => ⟨S2x8192x1024, .f32⟩
  | 118 => ⟨S2x16x512x1024, .f32⟩
  | 119 => ⟨S16x1024x512x2, .f32⟩
  | 120 => ⟨S1x16384x512x2, .f32⟩
  | 121 => ⟨S16384x512x2, .f32⟩
  | 122 => ⟨S16x1024x512x2, .f32⟩
  | 123 => ⟨S1024x1024, .f32⟩
  | 124 => ⟨S16x64x1024, .f32⟩
  | 125 => ⟨S16x64x512x2, .f32⟩
  | 126 => ⟨S1024x512x2, .f32⟩
  | 127 => ⟨S1024x1x1, .f32⟩
  | _ => ⟨S512x2x1024, .f32⟩

abbrev hbmTy0_1 (i : Nat) : BufTy := match i % 128 with
  | 0 => ⟨S1024x512x2, .f32⟩
  | 1 => ⟨S1024x512x2, .f32⟩
  | 2 => ⟨S512x2x1024, .f32⟩
  | _ => ⟨S512x2x1024, .f32⟩

abbrev hbmTy (i : Nat) : BufTy := match i / 128 with
  | 0 => hbmTy0_0 i
  | 1 => hbmTy0_1 i
  | _ => ⟨S512x2x1024, .f32⟩

abbrev bufTy : (tb : Table) → Fin (tcTables nBuf tb) → BufTy
  | .hbm, ⟨i, _⟩ => hbmTy i
  | _, _ => ⟨S512x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_values : Ref sig .tc := ⟨.hbm, 66, rfl⟩
abbrev main_indices : Ref sig .tc := ⟨.hbm, 67, rfl⟩
abbrev main_cst_5 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_c : Ref sig .tc := ⟨.hbm, 88, rfl⟩
abbrev main_v65 : Ref sig .tc := ⟨.hbm, 89, rfl⟩
abbrev main_v66 : Ref sig .tc := ⟨.hbm, 90, rfl⟩
abbrev main_c_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_c_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_12 : Ref sig .tc := ⟨.hbm, 102, rfl⟩
abbrev main_v75 : Ref sig .tc := ⟨.hbm, 103, rfl⟩
abbrev main_v76 : Ref sig .tc := ⟨.hbm, 104, rfl⟩
abbrev main_c_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Proof.TopTen.lean ====
/- The ten largest entries of a row of 512 reals: an order of the row, the weights of its ten largest entries, and the
   rounds that mask the largest entry nine times. Pure mathematics: no program is mentioned. -/
module

public import Mathlib.Data.EReal.Basic
public import Mathlib.Data.EReal.Operations
public import Mathlib.Analysis.SpecialFunctions.Exp

@[expose] public section

noncomputable section

namespace Cert.TopTen

/-- `σ` lists the entries of the row `p` from the largest to the smallest, and each of the first ten is strictly larger than
    every later one. -/
structure Ranked {α : Type} [LinearOrder α] (p : Fin 512 → α) (σ : Fin 512 ≃ Fin 512) : Prop where
  anti : ∀ i j : Fin 512, i ≤ j → p (σ j) ≤ p (σ i)
  strict : ∀ i j : Fin 512, i < j → i.val < 10 → p (σ j) < p (σ i)

/-- A strictly increasing function of the entries is ranked by the same list. -/
theorem Ranked.map {α β : Type} [LinearOrder α] [LinearOrder β] {p : Fin 512 → α} {σ : Fin 512 ≃ Fin 512} (h : Ranked p σ)
    {φ : α → β} (hφ : StrictMono φ) : Ranked (fun m => φ (p m)) σ :=
  ⟨fun i j hij => hφ.monotone (h.anti i j hij), fun i j hij hi => hφ (h.strict i j hij hi)⟩

/-- If a strictly increasing function of the entries is ranked, so are the entries. -/
theorem Ranked.of_map {α β : Type} [LinearOrder α] [LinearOrder β] {p : Fin 512 → α} {σ : Fin 512 ≃ Fin 512} {φ : α → β}
    (hφ : StrictMono φ) (h : Ranked (fun m => φ (p m)) σ) : Ranked p σ :=
  ⟨fun i j hij => hφ.le_iff_le.1 (h.anti i j hij), fun i j hij hi => hφ.lt_iff_lt.1 (h.strict i j hij hi)⟩

/-- Entry `m` is among the first ten of the list `σ`. -/
def Top (σ : Fin 512 ≃ Fin 512) (m : Fin 512) : Prop := (σ.symm m).val < 10

instance (σ : Fin 512 ≃ Fin 512) (m : Fin 512) : Decidable (Top σ m) := inferInstanceAs (Decidable (_ < _))

/-- The largest entry of a row. -/
def rowMax (x : Fin 512 → EReal) : EReal := Finset.univ.fold max ⊥ x

theorem rowMax_eq_of (x : Fin 512 → EReal) (v : EReal) (m : Fin 512) (hm : x m = v) (h : ∀ k, x k ≤ v) : rowMax x = v := by
  unfold rowMax
  apply le_antisymm
  · exact (Finset.fold_max_le (c := v)).2 ⟨bot_le, fun k _ => h k⟩
  · exact (Finset.le_fold_max (c := v)).2 (Or.inr ⟨m, Finset.mem_univ m, hm.ge⟩)

/-- The largest entry of a row of reals is a real. -/
theorem rowMax_coe (s : Fin 512 → ℝ) : ∃ A : ℝ, rowMax (fun m => ((s m : ℝ) : EReal)) = A := by
  obtain ⟨m, -, hm⟩ := Finset.exists_max_image (Finset.univ : Finset (Fin 512)) s ⟨0, Finset.mem_univ _⟩
  exact ⟨s m, rowMax_eq_of _ _ m rfl fun k => EReal.coe_le_coe_iff.2 (hm k (Finset.mem_univ k))⟩

/-- One masking round: every entry equal to the row's largest becomes `-1`. -/
def mask (x : Fin 512 → EReal) (m : Fin 512) : EReal := if x m = rowMax x then -1 else x m

/-- The row after the first `r` entries of the list have been masked. -/
def Masked (p : Fin 512 → EReal) (σ : Fin 512 ≃ Fin 512) (r : ℕ) (x : Fin 512 → EReal) : Prop :=
  ∀ j : Fin 512, x (σ j) = if j.val < r then -1 else p (σ j)

variable {p : Fin 512 → EReal} {σ : Fin 512 ≃ Fin 512}

theorem masked_zero : Masked p σ 0 p := fun j => by simp

/-- While entry `r` of the list is unmasked, it is the largest of the row. -/
theorem Masked.rowMax_eq (h : Ranked p σ) (hp : ∀ m, -1 < p m) {r : ℕ} (hr : r < 512) {x : Fin 512 → EReal}
    (hx : Masked p σ r x) : rowMax x = p (σ ⟨r, hr⟩) := by
  refine rowMax_eq_of x _ (σ ⟨r, hr⟩) (by rw [hx]; simp) fun k => ?_
  obtain ⟨j, rfl⟩ := σ.surjective k
  rw [hx]
  by_cases hj : j.val < r
  · rw [if_pos hj]
    exact (hp _).le
  · rw [if_neg hj]
    exact h.anti _ _ (Fin.le_def.2 (not_lt.1 hj))

/-- A masking round masks exactly the next entry of the list. -/
theorem Masked.mask (h : Ranked p σ) (hp : ∀ m, -1 < p m) {r : ℕ} (hr : r < 10) {x : Fin 512 → EReal}
    (hx : Masked p σ r x) : Masked p σ (r + 1) (mask x) := fun j => by
  have hr' : r < 512 := by omega
  unfold TopTen.mask
  rw [hx.rowMax_eq h hp hr', hx]
  rcases lt_trichotomy j.val r with hj | hj | hj
  · rw [if_pos hj, if_neg (hp _).ne, if_pos (by omega)]
  · obtain rfl : j = ⟨r, hr'⟩ := Fin.ext hj
    simp
  · have hlt : p (σ j) < p (σ ⟨r, hr'⟩) := h.strict ⟨r, hr'⟩ j (Fin.lt_def.2 hj) hr
    rw [if_neg (show ¬ j.val < r by omega), if_neg hlt.ne, if_neg (show ¬ j.val < r + 1 by omega)]

/-- Nine masking rounds. -/
def mask9 (x : Fin 512 → EReal) : Fin 512 → EReal :=
  TopTen.mask (TopTen.mask (TopTen.mask (TopTen.mask (TopTen.mask (TopTen.mask (TopTen.mask (TopTen.mask (TopTen.mask x))))))))

/-- After nine rounds the row's largest entry is the tenth of the list, so the entries that reach it are the ten largest. -/
theorem threshold (h : Ranked p σ) (hp : ∀ m, -1 < p m) (m : Fin 512) : rowMax (mask9 p) ≤ p m ↔ Top σ m := by
  have h9 : Masked p σ 9 (mask9 p) := by
    unfold mask9
    iterate 9 refine Masked.mask h hp (by norm_num) ?_
    exact masked_zero
  rw [h9.rowMax_eq h hp (by norm_num)]
  obtain ⟨j, rfl⟩ := σ.surjective m
  unfold Top
  rw [Equiv.symm_apply_apply]
  constructor
  · intro hle
    by_contra hj
    exact absurd hle (not_le.2 (h.strict ⟨9, by norm_num⟩ j (Fin.lt_def.2 (by simpa using Nat.lt_of_lt_of_le (by norm_num : 9 < 10) (not_lt.1 hj))) (by norm_num)))
  · intro hj
    exact h.anti j ⟨9, by norm_num⟩ (Fin.le_def.2 (by simpa using Nat.lt_succ_iff.1 hj))

/-! ## The weights of the ten largest scores -/

/-- The unnormalised softmax weight of entry `m`: the exponential of its score if it is among the ten, else zero. -/
def weight (s : Fin 512 → ℝ) (σ : Fin 512 ≃ Fin 512) (m : Fin 512) : ℝ := if Top σ m then Real.exp (s m) else 0

/-- The sum of the ten weights. -/
def total (s : Fin 512 → ℝ) (σ : Fin 512 ≃ Fin 512) : ℝ := ∑ m, weight s σ m

theorem total_pos (s : Fin 512 → ℝ) (σ : Fin 512 ≃ Fin 512) : 0 < total s σ := by
  unfold total
  refine Finset.sum_pos' (fun m _ => ?_) ⟨σ 0, Finset.mem_univ _, ?_⟩
  · unfold weight; split
    · exact (Real.exp_pos _).le
    · exact le_rfl
  · unfold weight
    rw [if_pos (by unfold Top; rw [Equiv.symm_apply_apply]; norm_num)]
    exact Real.exp_pos _

/-- A sum over the ten entries in the order of the list is the sum over the row of the entries kept. -/
theorem sum_top (σ : Fin 512 ≃ Fin 512) (g : Fin 512 → ℝ) :
    (∑ t : Fin 10, g (σ (t.castLE (by norm_num)))) = ∑ m, if Top σ m then g m else 0 := by
  rw [← Equiv.sum_comp σ, ← Finset.sum_filter]
  refine Finset.sum_bij (fun t _ => (t.castLE (by norm_num) : Fin 512)) ?_ ?_ ?_ ?_
  · intro t _
    simp only [Finset.mem_filter, Finset.mem_univ, true_and]
    unfold Top
    rw [Equiv.symm_apply_apply]
    exact t.isLt
  · intro a _ b _ e
    exact Fin.ext (by simpa using congrArg Fin.val e)
  · intro j hj
    simp only [Finset.mem_filter, Finset.mem_univ, true_and] at hj
    unfold Top at hj
    rw [Equiv.symm_apply_apply] at hj
    exact ⟨⟨j.val, hj⟩, Finset.mem_univ _, rfl⟩
  · intro t _
    rfl

/-- Shifting every score by `A` scales numerator and denominator alike. -/
theorem shifted_quotient (s : Fin 512 → ℝ) (σ : Fin 512 ≃ Fin 512) (A : ℝ) (v : Fin 512 → ℝ) :
    (∑ m, (if Top σ m then Real.exp (s m - A) else 0) * v m) * (1 / ∑ m, if Top σ m then Real.exp (s m - A) else 0)
      = ∑ m, weight s σ m / total s σ * v m := by
  have hw : ∀ m, (if Top σ m then Real.exp (s m - A) else 0) = weight s σ m * Real.exp (-A) := fun m => by
    unfold weight
    split
    · rw [sub_eq_add_neg, Real.exp_add]
    · rw [zero_mul]
  have hA : Real.exp (-A) ≠ 0 := (Real.exp_pos _).ne'
  have ht := (total_pos s σ).ne'
  simp only [hw]
  rw [← Finset.sum_mul]
  change _ * (1 / (total s σ * _)) = _
  rw [Finset.sum_mul]
  refine Finset.sum_congr rfl fun m _ => ?_
  field_simp

/-- The softmax weight of an entry of the ten, with any shift `M`. -/
theorem shifted_weight (s : Fin 512 → ℝ) (σ : Fin 512 ≃ Fin 512) (M : ℝ) (t : Fin 10) :
    Real.exp (s (σ (t.castLE (by norm_num))) - M) * (1 / ∑ u : Fin 10, Real.exp (s (σ (u.castLE (by norm_num))) - M))
      = weight s σ (σ (t.castLE (by norm_num))) / total s σ := by
  have hs : (∑ u : Fin 10, Real.exp (s (σ (u.castLE (by norm_num))) - M)) = total s σ * Real.exp (-M) := by
    rw [sum_top σ fun m => Real.exp (s m - M)]
    unfold total
    rw [Finset.sum_mul]
    refine Finset.sum_congr rfl fun m _ => ?_
    unfold weight
    split
    · rw [sub_eq_add_neg, Real.exp_add]
    · rw [zero_mul]
  have hA : Real.exp (-M) ≠ 0 := (Real.exp_pos _).ne'
  have ht := (total_pos s σ).ne'
  rw [hs, sub_eq_add_neg, Real.exp_add]
  unfold weight
  rw [if_pos (by unfold Top; rw [Equiv.symm_apply_apply]; exact t.isLt)]
  field_simp

end Cert.TopTen

end
-- ==== Proof.Model.lean ====
/- The computation over the reals: the projections, the scores, the softmax of each row's ten largest scores, and the
   weighted sums, as functions of the arguments' entries. Both programs are proved to compute these. -/
module

public import proofs.«01_k».proof.Proof.TopTen
public import proofs.«01_k».proof.KernelIdeal
public import Idealize.ShloMosaic.Lib.Pointwise
public import Mathlib.Analysis.SpecialFunctions.Log.Basic

@[expose] public section

noncomputable section

namespace Cert.Model

open Idealize.ShloMosaic Cert.TopTen

/-- The entries of the arguments: real numbers, but for the overlaps and three of the biases, which may be infinite. -/
structure Args where
  f : Fin 512 → Fin 2 → Fin 1024 → ℝ
  pe : Fin 2 → Fin 512 → Fin 512 → Fin 64 → ℝ
  over : Fin 2 → Fin 512 → Fin 512 → EReal
  wg : Fin 16 → Fin 64 → ℝ
  bg : Fin 16 → EReal
  wk : Fin 1024 → Fin 1024 → ℝ
  bk : Fin 1024 → EReal
  wq : Fin 1024 → Fin 1024 → ℝ
  bq : Fin 1024 → ℝ
  wp : Fin 1024 → Fin 1024 → ℝ
  bp : Fin 1024 → EReal

/-- The arrays hold these entries. -/
structure Cells (A : Args) (a0 : FVec Ideal Cert.KernelIdeal.S512x2x1024 .f32) (a1 : FVec Ideal Cert.KernelIdeal.S2x512x512x64 .f32)
    (a2 : FVec Ideal Cert.KernelIdeal.S2x512x512 .f32) (a3 : FVec Ideal Cert.KernelIdeal.S16x64 .f32)
    (a4 : FVec Ideal Cert.KernelIdeal.S16 .f32) (a5 : FVec Ideal Cert.KernelIdeal.S1024x1024 .f32)
    (a6 : FVec Ideal Cert.KernelIdeal.S1024 .f32) (a7 : FVec Ideal Cert.KernelIdeal.S1024x1024 .f32)
    (a8 : FVec Ideal Cert.KernelIdeal.S1024 .f32) (a9 : FVec Ideal Cert.KernelIdeal.S1024x1024x1x1 .f32)
    (a10 : FVec Ideal Cert.KernelIdeal.S1024 .f32) : Prop where
  f : ∀ n c k, a0 (ix3 n c k) = (A.f n c k : EReal)
  pe : ∀ c n m e, a1 (ix4 c n m e) = (A.pe c n m e : EReal)
  over : ∀ c n m, a2 (ix3 c n m) = A.over c n m
  wg : ∀ g e, a3 (ix2 g e) = (A.wg g e : EReal)
  bg : ∀ g, a4 (ix1 g) = A.bg g
  wk : ∀ o k, a5 (ix2 o k) = (A.wk o k : EReal)
  bk : ∀ o, a6 (ix1 o) = A.bk o
  wq : ∀ o k, a7 (ix2 o k) = (A.wq o k : EReal)
  bq : ∀ o, a8 (ix1 o) = (A.bq o : EReal)
  wp : ∀ o k, a9 (ix4 o k 0 0) = (A.wp o k : EReal)
  bp : ∀ o, a10 (ix1 o) = A.bp o

/-- The value of the word both programs use for `1e-6`. -/
def eps : ℝ := 8796093 / 8796093022208

theorem eps_pos : 0 < eps := by unfold eps; norm_num

/-- Column `d` of group `g` among the 1024 columns. -/
def col (g : Fin 16) (d : Fin 64) : Fin 1024 := ⟨g.val * 64 + d.val, by omega⟩

/-- Group `g` of image `c` among the 32 groups of both images. -/
def head (c : Fin 2) (g : Fin 16) : Fin 32 := ⟨c.val * 16 + g.val, by omega⟩

/-- Row `n` of image `c` among the 1024 rows of both images. -/
def flat (c : Fin 2) (n : Fin 512) : Fin 1024 := ⟨c.val * 512 + n.val, by omega⟩

variable (A : Args)

/-- The projected queries. -/
def query (c : Fin 2) (n : Fin 512) (o : Fin 1024) : ℝ := (∑ k, A.f n c k * A.wq o k) + A.bq o

/-- The projected keys; an infinite bias counts as none. -/
def key (c : Fin 2) (m : Fin 512) (o : Fin 1024) : ℝ := (∑ k, A.wk o k * A.f m c k) + (A.bk o).toReal

/-- The scaled product of a query and a key within group `g`. -/
def aff (c : Fin 2) (g : Fin 16) (n m : Fin 512) : ℝ := (1 / 8) * ∑ d, query A c n (col g d) * key A c m (col g d)

/-- The geometric gate, at least `eps`, which it is where the bias is infinite. -/
def gate (c : Fin 2) (g : Fin 16) (n m : Fin 512) : ℝ := max (EReal.toReal (((∑ e, A.pe c n m e * A.wg g e : ℝ) : EReal) + A.bg g)) eps

theorem gate_pos (c : Fin 2) (g : Fin 16) (n m : Fin 512) : 0 < gate A c g n m := lt_max_of_lt_right eps_pos

/-- The overlap's term: none where the overlap reaches `eps`, else the logarithm of `eps`. -/
def low (c : Fin 2) (n m : Fin 512) : ℝ := if (eps : EReal) ≤ A.over c n m then 0 else Real.log eps

/-- The score of the pair `(n, m)` in group `g`. -/
def score (c : Fin 2) (g : Fin 16) (n m : Fin 512) : ℝ := Real.log (gate A c g n m) + aff A c g n m + low A c n m

/-- The projected features that a row's weights average. -/
def value (c : Fin 2) (g : Fin 16) (m : Fin 512) (d : Fin 64) : ℝ := ∑ k, A.f m c k * A.wp (col g d) k

/-- The average of the projected features under the softmax of the ten largest scores of row `n`, as listed by `σ`. -/
def mean (σ : Fin 512 ≃ Fin 512) (c : Fin 2) (g : Fin 16) (n : Fin 512) (d : Fin 64) : ℝ :=
  ∑ m, weight (score A c g n) σ m / total (score A c g n) σ * value A c g m d

/-! ## Extended reals -/

/-- The coercion of a sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals is a real. -/
theorem coe_max (x y : ℝ) : max (x : EReal) (y : EReal) = ((max x y : ℝ) : EReal) :=
  (EReal.coe_strictMono.monotone.map_max).symm

/-! ## Infinite biases -/

/-- The projected keys as the programs compute them, infinite where the bias is. -/
def rawKey (c : Fin 2) (m : Fin 512) (o : Fin 1024) : EReal := ((∑ k, A.wk o k * A.f m c k : ℝ) : EReal) + A.bk o

/-- The gate as the programs compute it, infinite where the bias is `+∞`. -/
def rawGate (c : Fin 2) (g : Fin 16) (n m : Fin 512) : EReal :=
  max (((∑ e, A.pe c n m e * A.wg g e : ℝ) : EReal) + A.bg g) (eps : EReal)

/-- Infinite biases do no harm: no gate is infinite, and only queries that are zero meet an infinite key. -/
structure Sound : Prop where
  bg : ∀ g, A.bg g ≠ ⊤
  bk : ∀ c n o, query A c n o = 0 ∨ A.bk o = ((A.bk o).toReal : EReal)

variable {A}

/-- The gates are the model's. -/
theorem Sound.gate (h : Sound A) (c : Fin 2) (g : Fin 16) (n m : Fin 512) : rawGate A c g n m = (gate A c g n m : EReal) := by
  have hb := h.bg g
  unfold rawGate Model.gate
  generalize A.bg g = b at hb ⊢
  induction b with
  | bot => rw [EReal.add_bot, EReal.toReal_bot, max_eq_right bot_le, max_eq_right eps_pos.le]
  | coe b => rw [← EReal.coe_add, EReal.toReal_coe, coe_max]
  | top => exact absurd rfl hb

/-- The product of a query and a key is the model's. -/
theorem Sound.product (h : Sound A) (c : Fin 2) (n m : Fin 512) (o : Fin 1024) :
    (query A c n o : EReal) * rawKey A c m o = ((query A c n o * key A c m o : ℝ) : EReal) := by
  rcases h.bk c n o with e | e
  · rw [e, zero_mul, EReal.coe_zero, zero_mul]
  · unfold rawKey key
    rw [e, ← EReal.coe_add, ← EReal.coe_mul, EReal.toReal_coe]

variable (A) in
/-- The arrays hold these entries, and their infinite biases do no harm. -/
structure Reads (a0 : FVec Ideal Cert.KernelIdeal.S512x2x1024 .f32) (a1 : FVec Ideal Cert.KernelIdeal.S2x512x512x64 .f32)
    (a2 : FVec Ideal Cert.KernelIdeal.S2x512x512 .f32) (a3 : FVec Ideal Cert.KernelIdeal.S16x64 .f32)
    (a4 : FVec Ideal Cert.KernelIdeal.S16 .f32) (a5 : FVec Ideal Cert.KernelIdeal.S1024x1024 .f32)
    (a6 : FVec Ideal Cert.KernelIdeal.S1024 .f32) (a7 : FVec Ideal Cert.KernelIdeal.S1024x1024 .f32)
    (a8 : FVec Ideal Cert.KernelIdeal.S1024 .f32) (a9 : FVec Ideal Cert.KernelIdeal.S1024x1024x1x1 .f32)
    (a10 : FVec Ideal Cert.KernelIdeal.S1024 .f32) : Prop extends Cells A a0 a1 a2 a3 a4 a5 a6 a7 a8 a9 a10 where
  sound : Sound A

/-- The word of `1e-6`. -/
theorem lit_eps : Ideal.ofBits .f32 0x358637BD#32 = (eps : EReal) := by
  unfold eps
  simp [Ideal.ofBits, Ideal.ieee, -EReal.coe_mul]; norm_num

/-- The word of `0.125`. -/
theorem lit_eighth : Ideal.ofBits .f32 0x3E000000#32 = ((1 / 8 : ℝ) : EReal) := by
  simp [Ideal.ofBits, Ideal.ieee, -EReal.coe_mul]; norm_num

/-- The word of `0`. -/
theorem lit_zero : Ideal.ofBits .f32 0x00000000#32 = (0 : EReal) := by
  simp [Ideal.ofBits, Ideal.ieee, -EReal.coe_mul]

/-- The word of `1`. -/
theorem lit_one : Ideal.ofBits .f32 0x3F800000#32 = ((1 : ℝ) : EReal) := by
  simp [Ideal.ofBits, Ideal.ieee, -EReal.coe_mul]; norm_num

/-- The word of `-1`. -/
theorem lit_neg_one : Ideal.ofBits .f32 0xBF800000#32 = (-1 : EReal) := by
  rw [show (-1 : EReal) = ((-1 : ℝ) : EReal) from rfl]
  simp [Ideal.ofBits, Ideal.ieee, -EReal.coe_mul, -EReal.coe_neg]; norm_num

/-- The word of `-∞`. -/
theorem lit_bot : Ideal.ofBits .f32 0xFF800000#32 = (⊥ : EReal) := by
  simp [Ideal.ofBits, Ideal.ieee, -EReal.coe_mul]

/-- The word of `+∞`. -/
theorem lit_top : Ideal.ofBits .f32 0x7F800000#32 = (⊤ : EReal) := by
  simp [Ideal.ofBits, Ideal.ieee, -EReal.coe_mul]

end Cert.Model

end
-- ==== Proof.Host.lean ====
/- What the kernel's host operations leave for the two device programs: the arguments transposed and reshaped, read at an
   index. -/
module

public import proofs.«01_k».proof.Proof.Model
public import proofs.«01_k».proof.Proof.Gen.KernelIdeal.Frame
public import Idealize.ShloMosaic.Lib.StableHlo.ReadAt

@[expose] public section

set_option maxRecDepth 16384

noncomputable section

namespace Cert.KernelIdeal.HostOps

open Idealize.ShloMosaic Idealize.ShloMosaic.TcCoe Cert.KernelIdeal Cert.KernelIdeal.Gen Cert.Model

variable (m : (ℓ : Loc nD τ sig) → Buf (Elt Ideal) ℓ) (ρ : Dev nD → PrngReg) (dev : Dev nD)

/-- The launch memory's arguments hold the entries. -/
def Holds (A : Args) (m : (ℓ : Loc nD τ sig) → Buf (Elt Ideal) ℓ) (dev : Dev nD) : Prop :=
  Reads A (m ((dev : Thread nD τ).loc main_arg0)) (m ((dev : Thread nD τ).loc main_arg1)) (m ((dev : Thread nD τ).loc main_arg2))
    (m ((dev : Thread nD τ).loc main_arg3)) (m ((dev : Thread nD τ).loc main_arg4)) (m ((dev : Thread nD τ).loc main_arg5))
    (m ((dev : Thread nD τ).loc main_arg6)) (m ((dev : Thread nD τ).loc main_arg7)) (m ((dev : Thread nD τ).loc main_arg8))
    (m ((dev : Thread nD τ).loc main_arg9)) (m ((dev : Thread nD τ).loc main_arg10))

variable {A : Args} {m}

/-- The features, a row per image and position. -/
theorem x_at (h : Holds A m dev) (c : Fin 2) (n : Fin 512) (k : Fin 1024) :
    V1 m ρ dev main_call0_v1 (ix2 (flat c n) k) = (A.f n c k : EReal) := by
  refine Eq.trans ?_ (h.f n c k)
  show StableHlo.after hostOps0 (W0 m ρ dev) _ _ = _
  unfold flat
  after_reads_at

/-- The features transposed. -/
theorem xt_at (h : Holds A m dev) (c : Fin 2) (n : Fin 512) (k : Fin 1024) :
    V1 m ρ dev main_call0_v3 (ix2 k (flat c n)) = (A.f n c k : EReal) := by
  refine Eq.trans ?_ (h.f n c k)
  show StableHlo.after hostOps0 (W0 m ρ dev) _ _ = _
  unfold flat
  after_reads_at
  show m ((dev : Thread nD τ).loc main_arg0) _ = _
  refine congrArg _ ?_
  rw [ix3_inj]
  refine ⟨Fin.ext ?_, Fin.ext ?_, rfl⟩ <;> simp only <;> omega

/-- The queries' weights transposed. -/
theorem wq_at (h : Holds A m dev) (k o : Fin 1024) : V1 m ρ dev main_call0_v4 (ix2 k o) = (A.wq o k : EReal) := by
  refine Eq.trans ?_ (h.wq o k)
  show StableHlo.after hostOps0 (W0 m ρ dev) _ _ = _
  after_reads_at

/-- The queries' bias as a row. -/
theorem bq_at (h : Holds A m dev) (o : Fin 1024) : V1 m ρ dev main_call0_v5 (ix2 0 o) = (A.bq o : EReal) := by
  refine Eq.trans ?_ (h.bq o)
  show StableHlo.after hostOps0 (W0 m ρ dev) _ _ = _
  after_reads_at

/-- The keys' weights, as given. -/
theorem wk_at (h : Holds A m dev) (o k : Fin 1024) : V1 m ρ dev main_arg5 (ix2 o k) = (A.wk o k : EReal) := by
  refine Eq.trans ?_ (h.wk o k)
  exact congrFun (W1_args m ρ dev main_arg5 (by decide)) _

/-- The keys' bias as a column. -/
theorem bk_at (h : Holds A m dev) (o : Fin 1024) : V1 m ρ dev main_call0_v6 (ix2 o 0) = A.bk o := by
  refine Eq.trans ?_ (h.bk o)
  show StableHlo.after hostOps0 (W0 m ρ dev) _ _ = _
  after_reads_at

/-- The projection's weights transposed. -/
theorem wp_at (h : Holds A m dev) (k o : Fin 1024) : V1 m ρ dev main_call0_v7 (ix2 k o) = (A.wp o k : EReal) := by
  refine Eq.trans ?_ (h.wp o k)
  show StableHlo.after hostOps0 (W0 m ρ dev) _ _ = _
  after_reads_at

/-- The embedding, a row per pair of positions. -/
theorem pe_at (h : Holds A m dev) (c : Fin 2) (n k : Fin 512) (b : n.val * 512 + k.val < 262144) (e : Fin 64) :
    V3 m ρ dev main_call0_v9 (ix3 c ⟨n.val * 512 + k.val, b⟩ e) = (A.pe c n k e : EReal) := by
  refine Eq.trans ?_ ((congrFun (W2_args m ρ dev main_arg1 (by decide)) _).trans (h.pe c n k e))
  show StableHlo.after hostOps1 (W2 m ρ dev) _ _ = _
  after_reads_at

/-- The gate's weights transposed. -/
theorem wg_at (h : Holds A m dev) (e : Fin 64) (g : Fin 16) : V3 m ρ dev main_call0_v10 (ix2 e g) = (A.wg g e : EReal) := by
  refine Eq.trans ?_ ((congrFun (W2_args m ρ dev main_arg3 (by decide)) _).trans (h.wg g e))
  show StableHlo.after hostOps1 (W2 m ρ dev) _ _ = _
  after_reads_at

/-- The gate's bias as a row. -/
theorem bg_at (h : Holds A m dev) (g : Fin 16) : V3 m ρ dev main_call0_v11 (ix2 0 g) = A.bg g := by
  refine Eq.trans ?_ ((congrFun (W2_args m ρ dev main_arg4 (by decide)) _).trans (h.bg g))
  show StableHlo.after hostOps1 (W2 m ρ dev) _ _ = _
  after_reads_at

/-- The last bias as a row. -/
theorem bp_at (h : Holds A m dev) (o : Fin 1024) : V3 m ρ dev main_call0_v12 (ix2 0 o) = A.bp o := by
  refine Eq.trans ?_ ((congrFun (W2_args m ρ dev main_arg10 (by decide)) _).trans (h.bp o))
  show StableHlo.after hostOps1 (W2 m ρ dev) _ _ = _
  after_reads_at

/-- The overlaps, as given. -/
theorem over_at (h : Holds A m dev) (c : Fin 2) (n k : Fin 512) : V3 m ρ dev main_arg2 (ix3 c n k) = A.over c n k :=
  (congrFun (W3_args m ρ dev main_arg2 (by decide)) _).trans (h.over c n k)

end Cert.KernelIdeal.HostOps

end
-- ==== Proof.Arrays0.lean ====
/- What the projection kernel leaves in its three arrays: the queries, the keys and the projected features of both images. -/
module

public import proofs.«01_k».proof.Proof.Host
public import Idealize.ShloMosaic.Lib.Pipeline.ValueKit
public import Idealize.ShloMosaic.Lib.Claim

@[expose] public section

set_option maxRecDepth 16384

noncomputable section

namespace Cert.KernelIdeal.Arrays0

open Idealize.ShloMosaic Idealize.ShloMosaic.TcCoe Idealize.ShloMosaic.Pipeline Cert.KernelIdeal Cert.KernelIdeal.Gen Cert.Model
open Cert.KernelIdeal.HostOps

/-! ## The projections of whole arrays -/

/-- A row of the first projection: the product with the weights, plus the bias. -/
theorem rows_at (x w : Vec Ideal S1024x1024 .f32) (b : Vec Ideal S1x1024 .f32) (r o : Fin 1024) :
    k0_pay2 x w b (ix2 r o) = ∑ k, x (ix2 r k) * w (ix2 k o) + b (ix2 0 o) := by
  pointwise [k0_pay2]

/-- A row of the second projection, which has the weights on the left. -/
theorem cols_at (w x : Vec Ideal S1024x1024 .f32) (b : Vec Ideal S1024x1 .f32) (o r : Fin 1024) :
    k0_pay3 w x b (ix2 o r) = ∑ k, w (ix2 o k) * x (ix2 k r) + b (ix2 o 0) := by
  pointwise [k0_pay3]

/-- One image's projected features, a group at a time. -/
theorem slab_at (x : Vec Ideal S512x1024 .f32) (w : Vec Ideal S1024x1024 .f32) (i : Fin 1) (g : Fin 16) (n : Fin 512) (d : Fin 64) :
    k0_pay4 x w (ix4 i g n d) = ∑ k, x (ix2 n k) * w (ix2 k (col g d)) := by
  obtain rfl : i = 0 := Subsingleton.elim _ _
  pointwise [k0_pay4]
  rfl

/-- The second image is projected as the first. -/
theorem slab_eq (x : Vec Ideal S512x1024 .f32) (w : Vec Ideal S1024x1024 .f32) : k0_pay1 x w = k0_pay4 x w := rfl

/-! ## The arrays -/

variable (m : (ℓ : Loc nD τ sig) → Buf (Elt Ideal) ℓ) (ρ : Dev nD → PrngReg) (dev : Dev nD)

/-- Every block of the projection kernel is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem in0 : iblk0 (V1 m ρ) dev 0 t0_0 = V1 m ρ dev main_call0_v1 := by blk_ext! [iblk0, idx t0_0]
theorem in1 : iblk0 (V1 m ρ) dev 1 t0_0 = V1 m ρ dev main_call0_v3 := by blk_ext! [iblk0, idx t0_0]
theorem in2 : iblk0 (V1 m ρ) dev 2 t0_0 = V1 m ρ dev main_call0_v4 := by blk_ext! [iblk0, idx t0_0]
theorem in3 : iblk0 (V1 m ρ) dev 3 t0_0 = V1 m ρ dev main_call0_v5 := by blk_ext! [iblk0, idx t0_0]
theorem in4 : iblk0 (V1 m ρ) dev 4 t0_0 = V1 m ρ dev main_arg5 := by blk_ext! [iblk0, idx t0_0]
theorem in5 : iblk0 (V1 m ρ) dev 5 t0_0 = V1 m ρ dev main_call0_v6 := by blk_ext! [iblk0, idx t0_0]
theorem in6 : iblk0 (V1 m ρ) dev 6 t0_0 = V1 m ρ dev main_call0_v7 := by blk_ext! [iblk0, idx t0_0]

/-- The first array is the first projection. -/
theorem array7 : (dat0 (V1 m ρ) dev).arrAt 7 cfg0.N = k0_pay2 (V1 m ρ dev main_call0_v1) (V1 m ρ dev main_call0_v4) (V1 m ρ dev main_call0_v5) := by
  refine (dat0 (V1 m ρ) dev).arrAt_eq_of_after_last 7 t0_0 (by decide +kernel) _ fun j => ?_
  blk_simp
  rw [after0_7]
  frame_out
  rw [in0, in2, in3]

/-- The second array is the second projection. -/
theorem array8 : (dat0 (V1 m ρ) dev).arrAt 8 cfg0.N = k0_pay3 (V1 m ρ dev main_arg5) (V1 m ρ dev main_call0_v3) (V1 m ρ dev main_call0_v6) := by
  refine (dat0 (V1 m ρ) dev).arrAt_eq_of_after_last 8 t0_0 (by decide +kernel) _ fun j => ?_
  blk_simp
  rw [after0_8]
  frame_out
  rw [in1, in4, in5]

/-- The third array holds, for each image and group, the projected features of every position. -/
def features (x w : Vec Ideal S1024x1024 .f32) : Vec Ideal S2x16x512x64 .f32 :=
  fun j => ∑ k : Fin 1024, x (ix2 (flat (j 0) (j 2)) k) * w (ix2 k (col (j 1) (j 3)))

theorem features_at (x w : Vec Ideal S1024x1024 .f32) (c : Fin 2) (g : Fin 16) (n : Fin 512) (d : Fin 64) :
    features x w (ix4 c g n d) = ∑ k : Fin 1024, x (ix2 (flat c n) k) * w (ix2 k (col g d)) := rfl

/-- The rows of the second image. -/
theorem second_at (x : Vec Ideal S1024x1024 .f32) (n : Fin 512) (k : Fin 1024) : View.ld x r0_5 (ix2 n k) = x (ix2 (flat 1 n) k) := by
  pointwise [r0_5]
  refine congrArg x ?_
  rw [ix2_inj]
  exact ⟨Fin.ext (by unfold flat; simp only [Fin.val_one]), rfl⟩

/-- The rows of the first image. -/
theorem first_at (x : Vec Ideal S1024x1024 .f32) (n : Fin 512) (k : Fin 1024) : View.ld x r0_3 (ix2 n k) = x (ix2 (flat 0 n) k) := by
  pointwise [r0_3]
  refine congrArg x ?_
  rw [ix2_inj]
  exact ⟨Fin.ext (by unfold flat; simp), rfl⟩

/-- The whole of a matrix. -/
theorem whole_eq (w : Vec Ideal S1024x1024 .f32) : View.ld w r0_0 = w := by
  funext j
  rw [eq_ix2 j]
  pointwise [r0_0]

/-- One image's part of the third array. -/
theorem part_eq (c : Fin 2) (x' : Vec Ideal S512x1024 .f32) (x w : Vec Ideal S1024x1024 .f32) (hx : ∀ n k, x' (ix2 n k) = x (ix2 (flat c n) k))
    (j : S2x16x512x64.Idx) (y : S1x16x512x64.Idx) (h0 : (j 0).val = c.val) (h1 : (j 1).val = (y 1).val) (h2 : (j 2).val = (y 2).val)
    (h3 : (j 3).val = (y 3).val) : k0_pay4 x' w y = features x w j := by
  obtain ⟨i, g, n, d, rfl⟩ : ∃ (i : Fin 1) (g : Fin 16) (n : Fin 512) (d : Fin 64), y = ix4 i g n d := ⟨y 0, y 1, y 2, y 3, eq_ix4 y⟩
  obtain ⟨c', g', n', d', rfl⟩ : ∃ (c : Fin 2) (g : Fin 16) (n : Fin 512) (d : Fin 64), j = ix4 c g n d := ⟨j 0, j 1, j 2, j 3, eq_ix4 j⟩
  obtain rfl : c' = c := Fin.ext h0
  obtain rfl : g' = g := Fin.ext h1
  obtain rfl : n' = n := Fin.ext h2
  obtain rfl : d' = d := Fin.ext h3
  rw [slab_at, features_at]
  simp only [hx]

theorem array9 : (dat0 (V1 m ρ) dev).arrAt 9 cfg0.N = features (V1 m ρ dev main_call0_v1) (V1 m ρ dev main_call0_v7) := by
  refine (dat0 (V1 m ρ) dev).arrAt_eq_of_after_last 9 t0_0 (by decide +kernel) _ fun j => ?_
  blk_simp
  rw [after0_9, in0, in6]
  generalize (V1 m ρ dev main_call0_v1) = x
  generalize (V1 m ρ dev main_call0_v7) = w
  canon_tiles y h
  · rw [whole_eq, slab_eq]
    exact part_eq 1 _ x w (second_at x) j y (by rw [h0]; simp only [Fin.val_one]; omega) h1 h2 h3
  · rw [whole_eq]
    exact part_eq 0 _ x w (first_at x) j y (by rw [h0]; simp only [Fin.val_zero]; omega) h1 h2 h3

variable {A : Args} {m}

/-- The first array holds the queries. -/
theorem query_at (h : Holds A m dev) (c : Fin 2) (n : Fin 512) (o : Fin 1024) :
    (dat0 (V1 m ρ) dev).arrAt 7 cfg0.N (ix2 (flat c n) o) = (query A c n o : EReal) := by
  rw [array7]
  refine (rows_at _ _ _ _ _).trans ?_
  simp only [x_at ρ dev h, wq_at ρ dev h, bq_at ρ dev h]
  unfold query
  rw [EReal.coe_add, coe_sum]
  simp only [EReal.coe_mul]

/-- The second array holds the keys, a column per position. -/
theorem key_at (h : Holds A m dev) (c : Fin 2) (n : Fin 512) (o : Fin 1024) :
    (dat0 (V1 m ρ) dev).arrAt 8 cfg0.N (ix2 o (flat c n)) = rawKey A c n o := by
  rw [array8]
  refine (cols_at _ _ _ _ _).trans ?_
  simp only [xt_at ρ dev h, wk_at ρ dev h, bk_at ρ dev h]
  unfold rawKey
  rw [coe_sum]
  simp only [EReal.coe_mul]

/-- The third array holds the projected features. -/
theorem value_at (h : Holds A m dev) (c : Fin 2) (g : Fin 16) (n : Fin 512) (d : Fin 64) :
    (dat0 (V1 m ρ) dev).arrAt 9 cfg0.N (ix4 c g n d) = (value A c g n d : EReal) := by
  rw [array9]
  refine (features_at _ _ _ _ _ _).trans ?_
  simp only [x_at ρ dev h, wp_at ρ dev h]
  unfold value
  rw [coe_sum]
  simp only [EReal.coe_mul]

end Cert.KernelIdeal.Arrays0

end
-- ==== Proof.Block1.lean ====
/- What one block of the attention kernel computes: 64 rows of one image, from the block's pairs, overlaps and queries and
   the whole image's keys and projected features. -/
module

public import proofs.«01_k».proof.Proof.Model
public import proofs.«01_k».proof.Proof.Gen.KernelIdeal.Frame
public import Idealize.ShloMosaic.Lib.Pipeline.ValueKit

@[expose] public section

set_option maxRecDepth 16384

noncomputable section

namespace Cert.KernelIdeal.Block1

open Idealize.ShloMosaic Cert.KernelIdeal Cert.KernelIdeal.Gen Cert.Model Cert.TopTen

variable {A : Args} {c : Fin 2} {row : Fin 64 → Fin 512}

/-- The blocks hold the entries of the model: rows `row` of image `c`. -/
structure BlockReads (A : Args) (c : Fin 2) (row : Fin 64 → Fin 512) (x0 : Vec Ideal S1x32768x64 .f32) (x1 : Vec Ideal S1x64x512 .f32)
    (x2 : Vec Ideal S64x1024 .f32) (x3 : Vec Ideal S1024x512 .f32) (x4 : Vec Ideal S1x16x512x64 .f32) (x5 : Vec Ideal S64x16 .f32)
    (x6 : Vec Ideal S1x16 .f32) (x7 : Vec Ideal S1x1024 .f32) : Prop where
  pe : ∀ (n : Fin 64) (m : Fin 512) (h : n.val * 512 + m.val < 32768) (e : Fin 64),
    x0 (ix3 0 ⟨n.val * 512 + m.val, h⟩ e) = (A.pe c (row n) m e : EReal)
  over : ∀ n m, x1 (ix3 0 n m) = A.over c (row n) m
  query : ∀ n o, x2 (ix2 n o) = (query A c (row n) o : EReal)
  key : ∀ o m, x3 (ix2 o m) = rawKey A c m o
  value : ∀ g m d, x4 (ix4 0 g m d) = (value A c g m d : EReal)
  wg : ∀ e g, x5 (ix2 e g) = (A.wg g e : EReal)
  bg : ∀ g, x6 (ix2 0 g) = A.bg g
  bp : ∀ o, x7 (ix2 0 o) = A.bp o
  sound : Sound A

variable {x0 : Vec Ideal S1x32768x64 .f32} {x1 : Vec Ideal S1x64x512 .f32} {x2 : Vec Ideal S64x1024 .f32}
  {x3 : Vec Ideal S1024x512 .f32} {x4 : Vec Ideal S1x16x512x64 .f32} {x5 : Vec Ideal S64x16 .f32} {x6 : Vec Ideal S1x16 .f32}
  {x7 : Vec Ideal S1x1024 .f32}

/-- The named constant is the logarithm of `eps`. -/
theorem named_log : (Named.named κ "log_eps" 0xC15D0C55#32 : Ideal .f32) = ((Real.log eps : ℝ) : EReal) :=
  IdealRules.named_const.ideal_named_scalar _ _ _ _ rfl

/-- The block's gates. -/
theorem gate_at (h : BlockReads A c row x0 x1 x2 x3 x4 x5 x6 x7) (g : Fin 16) (n : Fin 64) (m : Fin 512) :
    k1_pay2 x0 x5 x6 (ix3 g n m) = (gate A c g (row n) m : EReal) := by
  pointwise [k1_pay2]
  simp only [h.pe, h.wg, h.bg, lit_eps]
  rw [← h.sound.gate]
  unfold rawGate
  rw [coe_sum]
  simp only [EReal.coe_mul]

/-- The block's scaled products with the overlaps' terms added. -/
theorem biased_at (h : BlockReads A c row x0 x1 x2 x3 x4 x5 x6 x7) (g : Fin 16) (n : Fin 64) (m : Fin 512) :
    k1_pay3 x2 x3 x1 (ix3 g n m) = ((aff A c g (row n) m + low A c (row n) m : ℝ) : EReal) := by
  pointwise [k1_pay3]
  simp only [h.query, h.key, h.over, h.sound.product, lit_eps, lit_eighth, named_log]
  unfold aff low
  rw [EReal.coe_add, EReal.coe_mul, coe_sum, mul_comm]
  split <;> rfl

/-- One masking round of the block's rows, as the kernel spells it. -/
def maskV (x : FVec Ideal S16x64x512 .f32) : FVec Ideal S16x64x512 .f32 :=
  select (cmpf .oeq x (broadcastTo S16x64x512 (shapeCast S16x64x1 (multiReduction .maximumf [2] S16x64 x 0xFF800000#32
    reduces_S16x64x512_S16x64 (.inl rfl) rfl) shapeCasts_S16x64_S16x64x1) broadcasts_S16x64x1_S16x64x512))
    (broadcast S16x64x512 (Scalar.ofBits .f32 0xBF800000#32)) x

/-- A masking round works on each row by itself. -/
theorem maskV_at (x : FVec Ideal S16x64x512 .f32) (g : Fin 16) (n : Fin 64) :
    (fun m => maskV x (ix3 g n m)) = mask fun m => x (ix3 g n m) := by
  funext m
  pointwise [maskV]
  simp only [lit_neg_one, lit_bot]
  rfl

/-- The first seven rounds. -/
theorem seven (u v w : FVec Ideal S16x64x512 .f32) :
    k1_pay6 u v w = maskV (maskV (maskV (maskV (maskV (maskV (maskV (k1_pay5 u v w))))))) := rfl

/-- What the kernel does with the rows and the rows masked nine times: keep what reaches the largest entry left, average
    the projected features under it, add the bias. -/
def finish (p t : FVec Ideal S16x64x512 .f32) (v : Vec Ideal S1x16x512x64 .f32) (b : Vec Ideal S1x1024 .f32) : FVec Ideal S64x1024 .f32 :=
  have kept : FVec Ideal S16x64x512 .f32 := select (cmpf .oge p (broadcastTo S16x64x512 (shapeCast S16x64x1
    (multiReduction .maximumf [2] S16x64 t 0xFF800000#32 reduces_S16x64x512_S16x64 (.inl rfl) rfl) shapeCasts_S16x64_S16x64x1)
    broadcasts_S16x64x1_S16x64x512)) p (broadcast S16x64x512 (Scalar.ofBits .f32 0x00000000#32))
  have features : FVec Ideal S16x512x64 .f32 := shapeCast S16x512x64 v shapeCasts_S1x16x512x64_S16x512x64
  addf (shapeCast S64x1024 (transpose S64x16x64 [1, 0, 2] (divf
    (matmul dot_S16x64x512_S16x512x64_S16x64x64_2_1_1_2_0_0 none kept features
      (constant S16x64x64 .f32 0x00000000#32))
    (broadcastTo S16x64x64 (shapeCast S16x64x1 (multiReduction .add [2] S16x64 kept 0x00000000#32 reduces_S16x64x512_S16x64 (.inl rfl) rfl)
      shapeCasts_S16x64_S16x64x1) broadcasts_S16x64x1_S16x64x64)) transposes_S16x64x64_p1_0_2_S64x16x64) shapeCasts_S64x16x64_S64x1024)
    (broadcastTo S64x1024 (shapeCast S1x1024 b shapeCasts_S1x1024_S1x1024) broadcasts_S1x1024_S64x1024)

/-- The kernel's last stage does two more rounds and then finishes. -/
theorem last (p t : FVec Ideal S16x64x512 .f32) (v : Vec Ideal S1x16x512x64 .f32) (b : Vec Ideal S1x1024 .f32) :
    k1_pay1 p t v b = finish p (maskV (maskV t)) v b := rfl

/-- The last stage at an element, by the row of each group. -/
theorem finish_at (p t : FVec Ideal S16x64x512 .f32) (v : Vec Ideal S1x16x512x64 .f32) (b : Vec Ideal S1x1024 .f32) (n : Fin 64) (o : Fin 1024)
    (g : Fin 16) (d : Fin 64) (ho : o = col g d) :
    finish p t v b (ix2 n o) = Ideal.div
      (∑ m, (if rowMax (fun k => t (ix3 g n k)) ≤ p (ix3 g n m) then p (ix3 g n m) else 0) * v (ix4 0 g m d))
      (∑ m, if rowMax (fun k => t (ix3 g n k)) ≤ p (ix3 g n m) then p (ix3 g n m) else 0) + b (ix2 0 o) := by
  have hg : o.val / 64 = g.val := by subst ho; unfold col; simp only; omega
  have hd : o.val % 64 = d.val := by subst ho; unfold col; simp only; omega
  pointwise [finish]
  simp only [hg, hd, lit_bot]
  rfl

/-- The entries the kernel ranks: the exponentials of the scores, shifted by one number per row. -/
theorem ranked_at (h : BlockReads A c row x0 x1 x2 x3 x4 x5 x6 x7) (g : Fin 16) (n : Fin 64) :
    ∃ M : ℝ, ∀ m, k1_pay5 (k1_pay2 x0 x5 x6) (k1_pay3 x2 x3 x1) (k1_pay4 x2 x3 x1) (ix3 g n m)
      = ((Real.exp (score A c g (row n) m - M) : ℝ) : EReal) := by
  obtain ⟨M, hM⟩ := rowMax_coe fun m => aff A c g (row n) m + low A c (row n) m
  refine ⟨M, fun m => ?_⟩
  have h4 : k1_pay4 x2 x3 x1 (ix3 g n m) = (M : EReal) := by
    pointwise [k1_pay4]
    simp only [biased_at h, lit_bot]
    unfold rowMax at hM
    exact hM
  pointwise [k1_pay5]
  rw [gate_at h, biased_at h, h4, ← EReal.coe_sub, Ideal.exp_coe, ← EReal.coe_mul]
  rw [EReal.coe_eq_coe_iff]
  unfold score
  rw [show ∀ a b d : ℝ, a + b + d - M = a + (b + d - M) from fun a b d => by ring, Real.exp_add, Real.exp_log (gate_pos A c g (row n) m)]

/-- A block of the kernel's result: the averages under the softmax of each row's ten largest scores, plus the bias. -/
theorem out_at (h : BlockReads A c row x0 x1 x2 x3 x4 x5 x6 x7) (n : Fin 64) (o : Fin 1024) (g : Fin 16) (d : Fin 64)
    (ho : o = col g d) (σ : Fin 512 ≃ Fin 512) (hσ : Ranked (score A c g (row n)) σ) :
    k1_pay1 (k1_pay5 (k1_pay2 x0 x5 x6) (k1_pay3 x2 x3 x1) (k1_pay4 x2 x3 x1))
      (k1_pay6 (k1_pay2 x0 x5 x6) (k1_pay3 x2 x3 x1) (k1_pay4 x2 x3 x1)) x4 x7 (ix2 n o)
      = (mean A σ c g (row n) d : EReal) + A.bp o := by
  obtain ⟨M, hM⟩ := ranked_at h g n
  rw [last, seven, finish_at _ _ _ _ n o g d ho]
  simp only [maskV_at, hM, h.value, h.bp]
  have hr : Ranked (fun m => ((Real.exp (score A c g (row n) m - M) : ℝ) : EReal)) σ :=
    hσ.map (φ := fun s => ((Real.exp (s - M) : ℝ) : EReal))
      (EReal.coe_strictMono.comp (Real.exp_strictMono.comp fun a b hab => sub_lt_sub_right hab M))
  have hp : ∀ m, (-1 : EReal) < ((Real.exp (score A c g (row n) m - M) : ℝ) : EReal) := fun m => by
    rw [show (-1 : EReal) = ((-1 : ℝ) : EReal) from rfl, EReal.coe_lt_coe_iff]
    exact lt_trans (by norm_num) (Real.exp_pos _)
  have ht := fun m => threshold hr hp m
  unfold mask9 at ht
  simp only [ht]
  have hk : ∀ m, (if Top σ m then ((Real.exp (score A c g (row n) m - M) : ℝ) : EReal) else 0)
      = ((if Top σ m then Real.exp (score A c g (row n) m - M) else 0 : ℝ) : EReal) := fun m => by split <;> rfl
  simp only [hk, ← EReal.coe_mul, ← coe_sum]
  have hz : (∑ m, if Top σ m then Real.exp (score A c g (row n) m - M) else 0) ≠ 0 := by
    rw [← sum_top σ fun m => Real.exp (score A c g (row n) m - M)]
    exact (Finset.sum_pos (fun _ _ => Real.exp_pos _) ⟨0, Finset.mem_univ _⟩).ne'
  rw [Ideal.div_coe hz, ← EReal.coe_mul, shifted_quotient]
  rfl

end Cert.KernelIdeal.Block1

end
-- ==== Proof.Arrays1.lean ====
/- What the attention kernel leaves in its array: each block's rows, from the arrays of the projection kernel and the host
   operations. -/
module

public import proofs.«01_k».proof.Proof.Arrays0
public import proofs.«01_k».proof.Proof.Block1

@[expose] public section

set_option maxRecDepth 16384

noncomputable section

namespace Cert.KernelIdeal.Arrays1

open Idealize.ShloMosaic Idealize.ShloMosaic.TcCoe Idealize.ShloMosaic.Pipeline Cert.KernelIdeal Cert.KernelIdeal.Gen Cert.Model Cert.TopTen
open Cert.KernelIdeal.HostOps Cert.KernelIdeal.Block1

variable {m : (ℓ : Loc nD τ sig) → Buf (Elt Ideal) ℓ} (ρ : Dev nD → PrngReg) (dev : Dev nD) {A : Args}

/-! ## The arrays the blocks are cut from -/

/-- The queries, kept since the projection kernel. -/
theorem query_at (h : Holds A m dev) (c : Fin 2) (n : Fin 512) (o : Fin 1024) :
    V3 m ρ dev main_call0_v8_0 (ix2 (flat c n) o) = (query A c n o : EReal) :=
  (congrFun ((W3_of m ρ dev main_call0_v8_0 (by decide)).trans (W2_arr m ρ dev 7)) _).trans (Arrays0.query_at ρ dev h c n o)

/-- The keys, kept since the projection kernel. -/
theorem key_at (h : Holds A m dev) (c : Fin 2) (n : Fin 512) (o : Fin 1024) :
    V3 m ρ dev main_call0_v8_1 (ix2 o (flat c n)) = rawKey A c n o :=
  (congrFun ((W3_of m ρ dev main_call0_v8_1 (by decide)).trans (W2_arr m ρ dev 8)) _).trans (Arrays0.key_at ρ dev h c n o)

/-- The projected features, kept since the projection kernel. -/
theorem value_at (h : Holds A m dev) (c : Fin 2) (g : Fin 16) (n : Fin 512) (d : Fin 64) :
    V3 m ρ dev main_call0_v8_2 (ix4 c g n d) = (value A c g n d : EReal) :=
  (congrFun ((W3_of m ρ dev main_call0_v8_2 (by decide)).trans (W2_arr m ρ dev 9)) _).trans (Arrays0.value_at ρ dev h c g n d)

/-! ## The blocks at a grid point -/

/-- The image of a grid point. -/
def image (t : Fin cfg1.N) : Fin 2 := ⟨t.val / 8, by have := t.isLt; have e : cfg1.N = 16 := N_1; omega⟩

/-- The positions of a grid point's rows. -/
def row (t : Fin cfg1.N) (n : Fin 64) : Fin 512 := ⟨t.val % 8 * 64 + n.val, by omega⟩

/-- Where each window's block lies at a grid point. -/
theorem idx : ∀ t : Fin cfg1.N, win1_0.index t = ![t.val / 8, t.val % 8, 0] ∧ win1_1.index t = ![t.val / 8, t.val % 8, 0]
    ∧ win1_2.index t = ![t.val, 0] ∧ win1_3.index t = ![0, t.val / 8] ∧ win1_4.index t = ![t.val / 8, 0, 0, 0]
    ∧ win1_5.index t = ![0, 0] ∧ win1_6.index t = ![0, 0] ∧ win1_7.index t = ![0, 0] ∧ win1_8.index t = ![t.val % 8, t.val / 8] :=
  (by decide +kernel : ∀ t : Fin grid1.N, _)

/-- The blocks at a grid point hold the entries of its image and rows. -/
theorem reads (h : Holds A m dev) (t : Fin cfg1.N) :
    BlockReads A (image t) (row t) (iblk1 (V3 m ρ) dev 0 t) (iblk1 (V3 m ρ) dev 1 t) (iblk1 (V3 m ρ) dev 2 t) (iblk1 (V3 m ρ) dev 3 t)
      (iblk1 (V3 m ρ) dev 4 t) (iblk1 (V3 m ρ) dev 5 t) (iblk1 (V3 m ρ) dev 6 t) (iblk1 (V3 m ρ) dev 7 t) where
  pe n k b e := by
    refine Eq.trans ?_ (pe_at ρ dev h (image t) (row t n) k (by have := (row t n).isLt; omega) e)
    unfold image row
    blk_ext [iblk1, idx t]
  over n k := by
    refine Eq.trans ?_ (over_at ρ dev h (image t) (row t n) k)
    unfold image row
    blk_ext [iblk1, idx t]
  query n o := by
    refine Eq.trans ?_ (query_at ρ dev h (image t) (row t n) o)
    unfold image row flat
    blk_ext [iblk1, idx t]
  key o k := by
    refine Eq.trans ?_ (key_at ρ dev h (image t) k o)
    unfold image flat
    blk_ext [iblk1, idx t]
  value g k d := by
    refine Eq.trans ?_ (value_at ρ dev h (image t) g k d)
    unfold image
    blk_ext [iblk1, idx t]
  wg e g := by
    refine Eq.trans ?_ (wg_at ρ dev h e g)
    blk_ext [iblk1, idx t]
  bg g := by
    refine Eq.trans ?_ (bg_at ρ dev h g)
    blk_ext [iblk1, idx t]
  bp o := by
    refine Eq.trans ?_ (bp_at ρ dev h o)
    blk_ext [iblk1, idx t]
  sound := h.sound

/-! ## The array -/

/-- The image of a column of the result. -/
def imageOf (i : S512x2048.Idx) : Fin 2 := ⟨(i 1).val / 1024, by have : (i 1).val < 2048 := (i 1).isLt; omega⟩

/-- The group of a column of the result. -/
def groupOf (i : S512x2048.Idx) : Fin 16 := ⟨(i 1).val % 1024 / 64, by omega⟩

/-- The column's place in its group. -/
def placeOf (i : S512x2048.Idx) : Fin 64 := ⟨(i 1).val % 64, by omega⟩

/-- The result as the kernel lays it out: a row per position, the two images' columns side by side. -/
def result (A : Args) (σ : Fin 2 → Fin 16 → Fin 512 → (Fin 512 ≃ Fin 512)) : Vec Ideal S512x2048 .f32 := fun i =>
  ((mean A (σ (imageOf i) (groupOf i) (i 0)) (imageOf i) (groupOf i) (i 0) (placeOf i) : ℝ) : EReal) + A.bp (col (groupOf i) (placeOf i))

/-- The result at a row, an image and a column of it. -/
theorem result_at (σ : Fin 2 → Fin 16 → Fin 512 → (Fin 512 ≃ Fin 512)) (i : S512x2048.Idx) (n : Fin 512) (c : Fin 2) (g : Fin 16) (d : Fin 64)
    (h0 : (i 0).val = n.val) (h1 : (i 1).val = c.val * 1024 + (col g d).val) :
    result A σ i = ((mean A (σ c g n) c g n d : ℝ) : EReal) + A.bp (col g d) := by
  have hcol : (col g d).val = g.val * 64 + d.val := rfl
  have e0 : i 0 = n := Fin.ext h0
  have e1 : imageOf i = c := Fin.ext (by unfold imageOf; simp only; omega)
  have e2 : groupOf i = g := Fin.ext (by unfold groupOf; simp only; omega)
  have e3 : placeOf i = d := Fin.ext (by unfold placeOf; simp only; omega)
  unfold result
  rw [e0, e1, e2, e3]

/-- The attention kernel's array is the result, for any lists that rank the rows' scores. -/
theorem array8 (h : Holds A m dev) (σ : Fin 2 → Fin 16 → Fin 512 → (Fin 512 ≃ Fin 512)) (hσ : ∀ c g n, Ranked (score A c g n) (σ c g n)) :
    (dat1 (V3 m ρ) dev).arrAt 8 cfg1.N = result A σ := by
  refine (dat1 (V3 m ρ) dev).arrAt_eq_of_covers 8 _ (by decide +kernel) fun t hf y => ?_
  blk_simp
  rw [after1_8]
  unfold_out out1_8
  frame_out
  obtain ⟨n, o, rfl⟩ : ∃ (n : Fin 64) (o : Fin 1024), y = ix2 n o := ⟨y 0, y 1, eq_ix2 y⟩
  have ho : o = col (⟨o.val / 64, by omega⟩ : Fin 16) (⟨o.val % 64, by omega⟩ : Fin 64) := Fin.ext (by unfold col; simp only; omega)
  refine (out_at (reads ρ dev h t) n o _ _ ho _ (hσ _ _ _)).trans ?_
  have e := (idx t).2.2.2.2.2.2.2.2
  have h0 : ((((View.whole main_call0_v13).slice (win1_8.rect t)).emb (ix2 n o)) 0).val = (row t n).val := by
    refine (Window.rect_emb_val win1_8 t (ix2 n o) 0 rfl).trans ?_
    rw [e]
    rfl
  have h1 : ((((View.whole main_call0_v13).slice (win1_8.rect t)).emb (ix2 n o)) 1).val = (image t).val * 1024 + o.val := by
    refine (Window.rect_emb_val win1_8 t (ix2 n o) 1 rfl).trans ?_
    rw [e]
    rfl
  rw [result_at σ _ (row t n) (image t) _ _ h0 (h1.trans (by rw [← ho])), ← ho]

end Cert.KernelIdeal.Arrays1

end
-- ==== Proof.KernelRun.lean ====
/- The kernel's run: it ends with its result array read off the contents after its last host operation, and its arguments as
   launched. -/
module

public import proofs.«01_k».proof.Proof.Arrays1

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Model Cert.TopTen Cert.KernelIdeal.HostOps

local notation "𝕄" => MT nD τ sig Unit (Elt Ideal) ℕ (UR sig nD τ) ℕ

variable (m : (ℓ : Loc nD τ sig) → Buf (Elt Ideal) ℓ) (ρ : Dev nD → PrngReg)

-- the launch theorem's implicit arguments are found only when plain definitions in a type are unfolded
set_option backward.isDefEq.respectTransparency.types false in
/-- Every run of the kernel ends, with its result array holding what the last host operation leaves there, and its
    arguments as launched. -/
theorem run : θ_run defs (onTc (τ := τ) (main (F := Ideal))) ⟨m, fun _ => 0, ρ⟩ (fun r => ∀ c : Dev nD,
      r.2.mem ((c.tc : Thread nD τ).loc main_v0) = W5 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v0 (by decide)), (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

/-- The result array at a position, an image and a column: for any lists that rank the rows' scores, the features' weighted mean
    plus the bias. -/
theorem result_at {A : Args} (dev : Dev nD) (h : Holds A m dev) (σ : Fin 2 → Fin 16 → Fin 512 → (Fin 512 ≃ Fin 512))
    (hσ : ∀ c g n, Ranked (score A c g n) (σ c g n)) (n : Fin 512) (c : Fin 2) (g : Fin 16) (d : Fin 64) :
    W5 m ρ dev main_v0 (ix3 n c (col g d)) = ((mean A (σ c g n) c g n d : ℝ) : EReal) + A.bp (col g d) := by
  have e : W4 m ρ dev main_call0_v13 = Arrays1.result A σ := (W4_arr m ρ dev 8).trans (Arrays1.array8 ρ dev h σ hσ)
  have hb : c.val * 1024 + (col g d).val < 2048 := by have := c.isLt; have := (col g d).isLt; omega
  refine Eq.trans ?_ ((congrFun e (ix2 n ⟨c.val * 1024 + (col g d).val, hb⟩)).trans (Arrays1.result_at σ _ n c g d rfl rfl))
  show StableHlo.after hostOps2 (W4 m ρ dev) _ _ = _
  after_reads_at

end Cert.KernelIdeal.Run

end
-- ==== Proof.Biases.lean ====
/- Why infinite biases do no harm where every row of scores holds two different scores: an infinite bias that counts makes all the
   scores of a row the same infinity. -/
module

public import proofs.«01_k».proof.Proof.Model

@[expose] public section

noncomputable section

namespace Cert.Model

open Idealize.ShloMosaic

variable (A : Args)

/-- The scaled product of a query and a key within group `g`, infinite where a key that counts is. -/
def rawAff (c : Fin 2) (g : Fin 16) (n m : Fin 512) : EReal :=
  ((1 / 8 : ℝ) : EReal) * ∑ d, (query A c n (col g d) : EReal) * rawKey A c m (col g d)

/-- The scores as the reference computes them, which infinite biases may make infinite. -/
def rawScore (c : Fin 2) (g : Fin 16) (n m : Fin 512) : EReal :=
  Ideal.log (rawGate A c g n m) + rawAff A c g n m + (low A c n m : EReal)

variable {A}

/-- The logarithm of a gate is not `-∞`. -/
theorem log_rawGate_ne (c : Fin 2) (g : Fin 16) (n m : Fin 512) : Ideal.log (rawGate A c g n m) ≠ ⊥ := by
  have h : (eps : EReal) ≤ rawGate A c g n m := le_max_right _ _
  generalize rawGate A c g n m = y at h
  induction y with
  | bot => exact absurd h (not_le.2 (EReal.bot_lt_coe eps))
  | coe y =>
    rw [Ideal.log_coe, if_neg (not_le.2 (eps_pos.trans_le (EReal.coe_le_coe_iff.1 h)))]
    exact EReal.coe_ne_bot _
  | top => exact fun h => nomatch h

/-- A sum with a term `-∞` is `-∞`. -/
theorem sum_bot {ι : Type} [Fintype ι] (t : ι → EReal) (i : ι) (h : t i = ⊥) : ∑ j, t j = ⊥ := by
  classical
  rw [← Finset.add_sum_erase _ t (Finset.mem_univ i), h, EReal.bot_add]

/-- A sum without a term `-∞` is not `-∞`. -/
theorem sum_ne_bot {ι : Type} (s : Finset ι) (t : ι → EReal) (h : ∀ i, t i ≠ ⊥) : ∑ j ∈ s, t j ≠ ⊥ := by
  classical
  induction s using Finset.induction_on with
  | empty => rw [Finset.sum_empty]; exact EReal.zero_ne_bot
  | insert a s ha ih =>
    rw [Finset.sum_insert ha]
    exact fun e => (EReal.add_eq_bot_iff.1 e).elim (h a) ih

/-- A sum with a term `+∞` and no term `-∞` is `+∞`. -/
theorem sum_top {ι : Type} [Fintype ι] (t : ι → EReal) (h : ∀ i, t i ≠ ⊥) (i : ι) (hi : t i = ⊤) : ∑ j, t j = ⊤ := by
  classical
  rw [← Finset.add_sum_erase _ t (Finset.mem_univ i), hi, EReal.top_add_of_ne_bot (sum_ne_bot _ t h)]

/-- An infinite product of a query and a key is the same infinity at every position. -/
theorem product_same (c : Fin 2) (n : Fin 512) (o : Fin 1024) (y : EReal) (hy : y = ⊥ ∨ y = ⊤) (m m' : Fin 512)
    (h : (query A c n o : EReal) * rawKey A c m o = y) : (query A c n o : EReal) * rawKey A c m' o = y := by
  unfold rawKey at h ⊢
  generalize A.bk o = b at h ⊢
  induction b with
  | bot => rw [EReal.add_bot] at h ⊢; exact h
  | coe b =>
    rw [← EReal.coe_add, ← EReal.coe_mul] at h
    rcases hy with rfl | rfl
    · exact absurd h (EReal.coe_ne_bot _)
    · exact absurd h (EReal.coe_ne_top _)
  | top => rw [EReal.coe_add_top] at h ⊢; exact h

/-- A query that is not zero makes an infinite key's product infinite. -/
theorem product_infinite (c : Fin 2) (n m : Fin 512) (o : Fin 1024) (hq : query A c n o ≠ 0) (hb : A.bk o ≠ ((A.bk o).toReal : EReal)) :
    (query A c n o : EReal) * rawKey A c m o = ⊥ ∨ (query A c n o : EReal) * rawKey A c m o = ⊤ := by
  unfold rawKey
  generalize A.bk o = b at hb ⊢
  induction b with
  | bot =>
    rw [EReal.add_bot]
    rcases lt_or_gt_of_ne hq with hq | hq
    · exact .inr (EReal.coe_mul_bot_of_neg hq)
    · exact .inl (EReal.coe_mul_bot_of_pos hq)
  | coe b => exact absurd rfl hb
  | top =>
    rw [EReal.coe_add_top]
    rcases lt_or_gt_of_ne hq with hq | hq
    · exact .inl (EReal.coe_mul_top_of_neg hq)
    · exact .inr (EReal.coe_mul_top_of_pos hq)

/-- A score whose scaled product is `-∞` is `-∞`. -/
theorem score_bot (c : Fin 2) (g : Fin 16) (n m : Fin 512) (h : rawAff A c g n m = ⊥) : rawScore A c g n m = ⊥ := by
  unfold rawScore
  rw [h, EReal.add_bot, EReal.bot_add]

/-- If a product is `-∞` at one position, every score of the row is `-∞`. -/
theorem row_bot (c : Fin 2) (g : Fin 16) (n m : Fin 512) (d : Fin 64)
    (h : (query A c n (col g d) : EReal) * rawKey A c m (col g d) = ⊥) (m' : Fin 512) : rawScore A c g n m' = ⊥ := by
  refine score_bot c g n m' ?_
  unfold rawAff
  rw [sum_bot (fun d => (query A c n (col g d) : EReal) * rawKey A c m' (col g d)) d (product_same c n _ ⊥ (.inl rfl) m m' h)]
  exact EReal.coe_mul_bot_of_pos (by norm_num)

/-- If a product is `+∞` and none is `-∞`, every score of the row is `+∞`. -/
theorem row_top (c : Fin 2) (g : Fin 16) (n m : Fin 512) (d : Fin 64)
    (h : (query A c n (col g d) : EReal) * rawKey A c m (col g d) = ⊤)
    (hn : ∀ m d, (query A c n (col g d) : EReal) * rawKey A c m (col g d) ≠ ⊥) (m' : Fin 512) : rawScore A c g n m' = ⊤ := by
  unfold rawScore rawAff
  rw [sum_top (fun d => (query A c n (col g d) : EReal) * rawKey A c m' (col g d)) (hn m') d (product_same c n _ ⊤ (.inr rfl) m m' h),
    EReal.coe_mul_top_of_pos (by norm_num), EReal.add_top_of_ne_bot (log_rawGate_ne c g n m'), EReal.top_add_coe]

/-- Where every row holds two different scores, infinite biases do no harm. -/
theorem sound_of_varied (hv : ∀ c g n, ∃ m m', rawScore A c g n m ≠ rawScore A c g n m') : Sound A := by
  have finite : ∀ c g n m d, (query A c n (col g d) : EReal) * rawKey A c m (col g d) ≠ ⊥ := fun c g n m d h => by
    obtain ⟨a, b, hab⟩ := hv c g n
    exact hab ((row_bot c g n m d h a).trans (row_bot c g n m d h b).symm)
  have bk : ∀ c n g d, query A c n (col g d) = 0 ∨ A.bk (col g d) = ((A.bk (col g d)).toReal : EReal) := fun c n g d => by
    by_contra hc
    obtain ⟨hq, hb⟩ := not_or.1 hc
    obtain ⟨a, b, hab⟩ := hv c g n
    have ht := (product_infinite c n a (col g d) hq hb).resolve_left (finite c g n a d)
    exact hab ((row_top c g n a d ht (finite c g n) a).trans (row_top c g n a d ht (finite c g n) b).symm)
  refine ⟨fun g hg => ?_, fun c n o => ?_⟩
  · obtain ⟨a, b, hab⟩ := hv 0 g 0
    have h : ∀ m, rawScore A 0 g 0 m = ⊤ := fun m => by
      have hs : rawAff A 0 g 0 m ≠ ⊥ := by
        have hs := sum_ne_bot Finset.univ _ (finite 0 g 0 m)
        unfold rawAff
        generalize (∑ d, (query A 0 0 (col g d) : EReal) * rawKey A 0 m (col g d)) = y at hs
        induction y with
        | bot => exact absurd rfl hs
        | coe y => rw [← EReal.coe_mul]; exact EReal.coe_ne_bot _
        | top => rw [EReal.coe_mul_top_of_pos (by norm_num)]; exact fun h => nomatch h
      have hl : rawGate A 0 g 0 m = ⊤ := by
        unfold rawGate
        rw [hg, EReal.coe_add_top, max_eq_left le_top]
      unfold rawScore
      rw [hl, Ideal.log_top, EReal.top_add_of_ne_bot hs, EReal.top_add_coe]
    exact hab ((h a).trans (h b).symm)
  · have e : o = col ⟨o.val / 64, by omega⟩ ⟨o.val % 64, by omega⟩ := Fin.ext (by unfold col; simp only; omega)
    rw [e]
    exact bk c n _ _

end Cert.Model

end
-- ==== Proof.RefScores.lean ====
/- What the reference's scores are: at each pair of rows of each group of each image, the model's score. -/
module

public import proofs.«01_k».proof.Proof.Biases
public import proofs.«01_k».proof.Proof.Gen.ReferenceIdeal.Read

@[expose] public section

set_option maxRecDepth 16384

noncomputable section

namespace Cert.ReferenceIdeal.Scores

open Idealize.ShloMosaic Cert.ReferenceIdeal Cert.ReferenceIdeal.Read Cert.Model Cert.TopTen

variable {A : Args} {x0 : FVec Ideal S512x2x1024 .f32} {x1 : FVec Ideal S2x512x512x64 .f32} {x2 : FVec Ideal S2x512x512 .f32}
  {x3 : FVec Ideal S16x64 .f32} {x4 : FVec Ideal S16 .f32} {x5 : FVec Ideal S1024x1024 .f32} {x6 : FVec Ideal S1024 .f32}
  {x7 : FVec Ideal S1024x1024 .f32} {x8 : FVec Ideal S1024 .f32} {x9 : FVec Ideal S1024x1024x1x1 .f32} {x10 : FVec Ideal S1024 .f32}

/-- The reference's keys. -/
theorem key_at (h : Cells A x0 x1 x2 x3 x4 x5 x6 x7 x8 x9 x10) (c : Fin 2) (g : Fin 16) (d : Fin 64) (m : Fin 512) :
    val_main_v18 (F := Ideal) x0 x5 x6 (ix3 (head c g) d m) = rawKey A c m (col g d) := by
  pointwise [val_main_v18, val_main_v17, val_main_v16, val_main_v15, val_main_v14, val_main_v13, val_main_v12, val_main_v11,
    val_main_v2, val_main_v1, head]
  simp only [h.f, h.wk, h.bk]
  unfold rawKey col
  rw [coe_sum]
  simp only [EReal.coe_mul, mul_comm]

/-- The reference's queries. -/
theorem query_at (h : Cells A x0 x1 x2 x3 x4 x5 x6 x7 x8 x9 x10) (c : Fin 2) (g : Fin 16) (n : Fin 512) (d : Fin 64) :
    val_main_v26 (F := Ideal) x0 x7 x8 (ix3 (head c g) n d) = (query A c n (col g d) : EReal) := by
  pointwise [val_main_v26, val_main_v25, val_main_v24, val_main_v23, val_main_v22, val_main_v21, val_main_v20, val_main_v19,
    val_main_v2, val_main_v1, head]
  simp only [h.f, h.wq, h.bq]
  unfold query col
  rw [EReal.coe_add, coe_sum]
  simp only [EReal.coe_mul]

/-- The reference's gates, before the bound below. -/
theorem gate_at (h : Cells A x0 x1 x2 x3 x4 x5 x6 x7 x8 x9 x10) (c : Fin 2) (g : Fin 16) (n m : Fin 512) :
    val_main_v32 (F := Ideal) x1 x3 x4 (ix3 (head c g) n m) = max (((∑ e, A.pe c n m e * A.wg g e : ℝ) : EReal) + A.bg g) 0 := by
  pointwise [val_main_v32, val_main_v31, val_main_v30, val_main_v10, val_main_v9, val_main_cst, val_main_v8, val_main_v7,
    val_main_v6, val_main_v5, val_main_v4, val_main_v3, head]
  simp only [h.pe, h.wg, h.bg]
  rw [coe_sum]
  simp only [EReal.coe_mul]

/-- The logarithm of a positive real. -/
theorem log_pos_coe {r : ℝ} (hr : 0 < r) : Ideal.log (r : EReal) = ((Real.log r : ℝ) : EReal) := by
  rw [Ideal.log_coe, if_neg (not_le.2 hr)]

/-- The reference's overlap terms. -/
theorem low_at (h : Cells A x0 x1 x2 x3 x4 x5 x6 x7 x8 x9 x10) (c : Fin 2) (g : Fin 16) (n m : Fin 512) :
    val_main_v43 (F := Ideal) x2 (ix3 (head c g) n m) = (low A c n m : EReal) := by
  pointwise [val_main_v43, val_main_v42, val_main_v41, val_main_v40, val_main_v39, val_main_v38, val_main_v37, val_main_v36,
    val_main_v35, val_main_v34, val_main_v33, val_main_cst_1, val_main_cst_2, val_main_cst_3, head]
  simp only [h.over, lit_eps]
  unfold low
  split
  · rw [max_eq_left (by rw [← EReal.coe_one, EReal.coe_le_coe_iff]; unfold eps; norm_num), ← EReal.coe_one, log_pos_coe one_pos, Real.log_one]
  · rw [max_eq_right (not_le.1 ‹_›).le, log_pos_coe eps_pos]

/-- The reference's scores, whatever the biases. -/
theorem rawScore_at (h : Cells A x0 x1 x2 x3 x4 x5 x6 x7 x8 x9 x10) (c : Fin 2) (g : Fin 16) (n m : Fin 512) :
    val_main_v48 (F := Ideal) x0 x1 x2 x3 x4 x5 x6 x7 x8 (ix3 (head c g) n m) = rawScore A c g n m := by
  have hg : ∀ x : EReal, max (max x 0) (eps : EReal) = max x eps := fun x => by
    rw [max_assoc, max_eq_right (EReal.coe_nonneg.2 eps_pos.le)]
  pointwise [val_main_v48, val_main_v47, val_main_v46, val_main_v45, val_main_v44, val_main_v29, val_main_v28, val_main_v27,
    val_main_cst_0, val_main_cst_4]
  simp only [gate_at h, key_at h, query_at h, low_at h, lit_eps, lit_eighth, hg]
  rfl

/-- The reference's scores. -/
theorem score_at (h : Reads A x0 x1 x2 x3 x4 x5 x6 x7 x8 x9 x10) (c : Fin 2) (g : Fin 16) (n m : Fin 512) :
    val_main_v48 (F := Ideal) x0 x1 x2 x3 x4 x5 x6 x7 x8 (ix3 (head c g) n m) = (score A c g n m : EReal) := by
  rw [rawScore_at h.toCells]
  unfold rawScore rawAff score aff
  simp only [h.sound.gate, h.sound.product]
  rw [log_pos_coe (gate_pos A c g n m), EReal.coe_add, EReal.coe_add, EReal.coe_mul, coe_sum]

end Cert.ReferenceIdeal.Scores

end
-- ==== Proof.RefTopK.lean ====
/- A stable descending sort of rows, read as a list of the row's positions. -/
module

public import Idealize.ShloMosaic.Lib.SortFacts
public import proofs.«01_k».proof.Proof.Model
public import proofs.«01_k».proof.Proof.Gen.ReferenceIdeal.Read

@[expose] public section

noncomputable section

namespace Cert.TopK

open Idealize.ShloMosaic Cert.TopTen

/-- Whether a position of a row comes strictly before another in the descending order. -/
def before (x : Fin 512 → EReal) (k k' : Fin 512) : Bool := Ideal.cmpTotal .gt (x k) (x k') == 1#1

theorem before_iff (x : Fin 512 → EReal) (k k' : Fin 512) : before x k k' = true ↔ x k' < x k := by
  show (BitVec.ofBool (decide (x k' < x k)) == 1#1) = true ↔ _
  by_cases h : x k' < x k <;> simp [h]

/-- The sort lists every position once. -/
theorem order_bijective (x : Fin 512 → EReal) : Function.Bijective (sortedFrom (before x)) :=
  ⟨sortedFrom_injective _, sortedFrom_surjective _⟩

/-- The list of a row's positions in the order of the stable descending sort. -/
def order (x : Fin 512 → EReal) : Fin 512 ≃ Fin 512 := Equiv.ofBijective (sortedFrom (before x)) (order_bijective x)

/-- A listed position is the sort's. -/
theorem order_apply (x : Fin 512 → EReal) (i : Fin 512) : order x i = sortedFrom (before x) i := by
  unfold order
  rw [Equiv.ofBijective_apply]

/-- The listed values do not increase. -/
theorem order_anti (x : Fin 512 → EReal) (i j : Fin 512) (h : i ≤ j) : x (order x j) ≤ x (order x i) := by
  have hneg : ∀ a b, before x a b = false ↔ x a ≤ x b := fun a b => by
    rw [← not_lt, ← before_iff, Bool.not_eq_true]
  rw [order_apply, order_apply, ← hneg]
  rcases h.eq_or_lt with e | h
  · rw [e, hneg]
  · refine sortedFrom_noInversion (before x) (before x) (fun a b e => ?_) (fun _ _ e => e) (fun a b c e f => ?_) i j h
    · rw [before_iff] at e
      rw [hneg]
      exact e.le
    · rw [hneg] at e f ⊢
      exact e.trans f

/-- A position of a row moved along the row. -/
theorem along_at (p : Fin 32) (n q q' : Fin 512) :
    (ix3 p n q : (⟨3, ![32, 512, 512]⟩ : Shape).Idx).along (2 : Fin 3) q' = ix3 p n q' := by
  funext a
  unfold Shape.Idx.along
  fin_cases a
  · rfl
  · rfl
  · rfl

/-- The rows of a stack of matrices sorted with a second operand: each row's values, and the second operand's, in the row's order. -/
theorem sort2_at (x : (⟨3, ![32, 512, 512]⟩ : Shape).Idx → EReal) (y : (⟨3, ![32, 512, 512]⟩ : Shape).Idx → BitVec 32)
    (p : Fin 32) (n q : Fin 512) :
    (Host.sort2 ⟨3, ![32, 512, 512]⟩ 2 (fun l r => Ideal.cmpTotal .gt l.1 r.1) x y).1 (ix3 p n q)
        = x (ix3 p n (order (fun q => x (ix3 p n q)) q))
      ∧ (Host.sort2 ⟨3, ![32, 512, 512]⟩ 2 (fun l r => Ideal.cmpTotal .gt l.1 r.1) x y).2 (ix3 p n q)
        = y (ix3 p n (order (fun q => x (ix3 p n q)) q)) := by
  have e : (fun k k' : Fin 512 => Ideal.cmpTotal .gt (x ((ix3 p n q : (⟨3, ![32, 512, 512]⟩ : Shape).Idx).along (2 : Fin 3) k))
      (x ((ix3 p n q : (⟨3, ![32, 512, 512]⟩ : Shape).Idx).along (2 : Fin 3) k')) == 1#1) = before (fun q => x (ix3 p n q)) := by
    funext k k'
    rw [along_at, along_at]
    rfl
  unfold Host.sort2
  rw [dif_pos (show 2 < 3 by norm_num)]
  constructor
  · rw [order_apply]
    exact (congrArg x (along_at p n q _)).trans (congrArg (fun b => x (ix3 p n (sortedFrom b q))) e)
  · rw [order_apply]
    exact (congrArg y (along_at p n q _)).trans (congrArg (fun b => y (ix3 p n (sortedFrom b q))) e)

/-- A first part of each row, read in the whole row. -/
theorem cut_at {α : Type} {k : ℕ} (hk : k ≤ 512) (x : (⟨3, ![32, 512, 512]⟩ : Shape).Idx → α) (hs) (p : Fin 32) (n : Fin 512) (j : Fin k) :
    extractStridedSlice ⟨3, ![32, 512, k]⟩ (fun _ => 0) x hs (ix3 p n j) = x (ix3 p n (j.castLE hk)) := by
  unfold extractStridedSlice
  refine congrArg x (funext fun a => Fin.ext ?_)
  fin_cases a
  · exact Nat.zero_add _
  · exact Nat.zero_add _
  · exact Nat.zero_add _

/-- The sorted values and positions of the rows of a stack of matrices, cut to a first part of each row. -/
theorem topK_at {k : ℕ} (hk : k ≤ 512) (x : (⟨3, ![32, 512, 512]⟩ : Shape).Idx → EReal) (hs) (p : Fin 32) (n : Fin 512) (j : Fin k) :
    (Host.topK ⟨3, ![32, 512, k]⟩ 2 (Ideal.cmpTotal .gt) x hs).1 (ix3 p n j)
        = x (ix3 p n (order (fun q => x (ix3 p n q)) (j.castLE hk)))
      ∧ (Host.topK ⟨3, ![32, 512, k]⟩ 2 (Ideal.cmpTotal .gt) x hs).2 (ix3 p n j)
        = BitVec.ofNat 32 (order (fun q => x (ix3 p n q)) (j.castLE hk)).val := by
  unfold Host.topK
  dsimp only
  rw [cut_at hk, cut_at hk]
  refine ⟨(sort2_at x _ p n _).1, (sort2_at x _ p n _).2.trans ?_⟩
  rw [dif_pos (show 2 < 3 by norm_num)]
  rfl

end Cert.TopK

end
-- ==== Proof.RefScatter.lean ====
/- Where the entries written by the reference's scatter land. -/
module

public import Idealize.ShloMosaic.Lib.Routing.OpsSet
public import proofs.«01_k».proof.Proof.Model
public import proofs.«01_k».proof.Proof.Gen.ReferenceIdeal.Read

@[expose] public section

noncomputable section

namespace Cert.ReferenceIdeal.Scatter

open Idealize.ShloMosaic Cert.ReferenceIdeal

/-- The scatter's description of which axes its index words name. -/
abbrev dims : ScatterDims S32x512x512 S32x512x10x3 S32x512x10 := scatter_S32x512x512_S32x512x10x3_S32x512x10_n_012_012_3

/-- Every axis is named by an index word. -/
theorem named (q : Fin 3) : q ∈ dims.scatterDimsToOperandDims := by
  show q ∈ ([0, 1, 2] : List (Fin 3))
  fin_cases q <;> simp

/-- An entry's place has no part of its own beside its index words. -/
theorem window_eq (k : S32x512x10.Idx) (q : Fin 3) : dims.window k q = 0 := by
  unfold ScatterDims.window
  fin_cases q <;> rfl

/-- The index words an entry is placed by. -/
theorem siIdx_eq (a : Fin 32) (b : Fin 512) (j : Fin 10) (q : Fin 3) :
    dims.siIdx (ix3 a b j) ⟨dims.scatterDimsToOperandDims.idxOf q, List.idxOf_lt_length_iff.2 (named q)⟩ = ix4 a b j q := by
  funext x
  apply Fin.ext
  fin_cases x <;> fin_cases q <;> rfl

/-- Entry `j` of row `b` of matrix `a` lands at the place its three index words name. -/
theorem lands_iff (idx : IVec S32x512x10x3 32) (a : Fin 32) (b : Fin 512) (j : Fin 10) (p : Fin 32) (n m : Fin 512) :
    dims.resultIdx? (ix3 a b j) idx = some (ix3 p n m)
      ↔ (idx (ix4 a b j 0)).toInt = p.val ∧ (idx (ix4 a b j 1)).toInt = n.val ∧ (idx (ix4 a b j 2)).toInt = m.val := by
  have hs : ∀ q : Fin 3, dims.start (ix3 a b j) idx q = (idx (ix4 a b j q)).toInt := fun q => by
    unfold ScatterDims.start
    rw [dif_pos (named q), siIdx_eq]
  rw [Routing.resultIdx?_eq_some]
  constructor
  · intro h
    refine ⟨?_, ?_, ?_⟩
    · have := h 0
      rw [hs, window_eq] at this
      simpa using this
    · have := h 1
      rw [hs, window_eq] at this
      simpa using this
    · have := h 2
      rw [hs, window_eq] at this
      simpa using this
  · rintro ⟨h0, h1, h2⟩ q
    rw [hs, window_eq]
    fin_cases q
    · simpa using h0
    · simpa using h1
    · simpa using h2

end Cert.ReferenceIdeal.Scatter

end
-- ==== Proof.RefSoftmax.lean ====
/- The reference's weights: each row's ten largest scores, their softmax, and the matrix the softmax is scattered into. -/
module

public import proofs.«01_k».proof.Proof.RefScores
public import proofs.«01_k».proof.Proof.RefTopK
public import proofs.«01_k».proof.Proof.RefScatter

@[expose] public section

set_option maxRecDepth 16384

noncomputable section

namespace Cert.ReferenceIdeal.Softmax

open Idealize.ShloMosaic Cert.ReferenceIdeal Cert.ReferenceIdeal.Gen Cert.ReferenceIdeal.Read Cert.Model Cert.TopTen Cert.TopK

variable {A : Args} {x0 : FVec Ideal S512x2x1024 .f32} {x1 : FVec Ideal S2x512x512x64 .f32} {x2 : FVec Ideal S2x512x512 .f32}
  {x3 : FVec Ideal S16x64 .f32} {x4 : FVec Ideal S16 .f32} {x5 : FVec Ideal S1024x1024 .f32} {x6 : FVec Ideal S1024 .f32}
  {x7 : FVec Ideal S1024x1024 .f32} {x8 : FVec Ideal S1024 .f32} {x9 : FVec Ideal S1024x1024x1x1 .f32} {x10 : FVec Ideal S1024 .f32}

/-- The positions of a row in descending order of its scores. -/
def list (A : Args) (c : Fin 2) (g : Fin 16) (n : Fin 512) : Fin 512 ≃ Fin 512 := order fun m => ((score A c g n m : ℝ) : EReal)

/-- The `j`-th listed position of a row, of the first ten. -/
def nth (A : Args) (c : Fin 2) (g : Fin 16) (n : Fin 512) (j : Fin 10) : Fin 512 := list A c g n (j.castLE (by norm_num))

/-- The rows of the reference's scores. -/
theorem row_eq (h : Reads A x0 x1 x2 x3 x4 x5 x6 x7 x8 x9 x10) (c : Fin 2) (g : Fin 16) (n : Fin 512) :
    (fun q : Fin 512 => val_main_v48 (F := Ideal) x0 x1 x2 x3 x4 x5 x6 x7 x8 (ix3 (head c g) n q)) = fun m => ((score A c g n m : ℝ) : EReal) :=
  funext fun q => Scores.score_at h c g n q

/-- The ten largest scores of a row. -/
theorem values_at (h : Reads A x0 x1 x2 x3 x4 x5 x6 x7 x8 x9 x10) (c : Fin 2) (g : Fin 16) (n : Fin 512) (j : Fin 10) :
    val_main_values (F := Ideal) x0 x1 x2 x3 x4 x5 x6 x7 x8 (ix3 (head c g) n j) = (score A c g n (nth A c g n j) : EReal) := by
  have e := (topK_at (by norm_num : 10 ≤ 512) (val_main_v48 (F := Ideal) x0 x1 x2 x3 x4 x5 x6 x7 x8) sliceFits_S32x512x512_S32x512x10 (head c g) n j).1
  rw [row_eq h, Scores.score_at h] at e
  exact e

/-- Their positions, as words. -/
theorem indices_at (h : Reads A x0 x1 x2 x3 x4 x5 x6 x7 x8 x9 x10) (c : Fin 2) (g : Fin 16) (n : Fin 512) (j : Fin 10) :
    val_main_indices (F := Ideal) x0 x1 x2 x3 x4 x5 x6 x7 x8 (ix3 (head c g) n j) = BitVec.ofNat 32 (nth A c g n j).val := by
  have e := (topK_at (by norm_num : 10 ≤ 512) (val_main_v48 (F := Ideal) x0 x1 x2 x3 x4 x5 x6 x7 x8) sliceFits_S32x512x512_S32x512x10 (head c g) n j).2
  rw [row_eq h] at e
  exact e

/-- The largest of ten reals is a real. -/
theorem max_coe (s : Fin 10 → ℝ) : ∃ M : ℝ, Finset.univ.fold max (⊥ : EReal) (fun j => ((s j : ℝ) : EReal)) = M := by
  obtain ⟨m, -, hm⟩ := Finset.exists_max_image (Finset.univ : Finset (Fin 10)) s ⟨0, Finset.mem_univ _⟩
  refine ⟨s m, le_antisymm ((Finset.fold_max_le (c := (s m : EReal))).2 ⟨bot_le, fun k _ => ?_⟩) ?_⟩
  · exact EReal.coe_le_coe_iff.2 (hm k (Finset.mem_univ k))
  · exact (Finset.le_fold_max (c := (s m : EReal))).2 (Or.inr ⟨m, Finset.mem_univ m, le_rfl⟩)

/-- The number the softmax subtracts is a real. -/
theorem shift_at (h : Reads A x0 x1 x2 x3 x4 x5 x6 x7 x8 x9 x10) (c : Fin 2) (g : Fin 16) (n : Fin 512) :
    ∃ M : ℝ, val_main_v51 (F := Ideal) x0 x1 x2 x3 x4 x5 x6 x7 x8 (ix2 (head c g) n) = M := by
  obtain ⟨M, hM⟩ := max_coe fun j => score A c g n (nth A c g n j)
  refine ⟨M, ?_⟩
  pointwise [val_main_v51, val_main_v50, val_main_v49, val_main_cst_5, val_main_cst_6]
  simp only [values_at h, lit_bot, hM]
  exact max_eq_right bot_le

/-- The softmax's weights: each listed entry's exponential over the sum of the ten. -/
theorem weight_at (h : Reads A x0 x1 x2 x3 x4 x5 x6 x7 x8 x9 x10) (c : Fin 2) (g : Fin 16) (n : Fin 512) (j : Fin 10) :
    val_main_v59 (F := Ideal) x0 x1 x2 x3 x4 x5 x6 x7 x8 (ix3 (head c g) n j)
      = ((weight (score A c g n) (list A c g n) (nth A c g n j) / total (score A c g n) (list A c g n) : ℝ) : EReal) := by
  obtain ⟨M, hM⟩ := shift_at h c g n
  pointwise [val_main_v59, val_main_v58, val_main_v57, val_main_v56, val_main_v55, val_main_v54, val_main_v53, val_main_v52, val_main_cst_7]
  have hpos : (∑ u : Fin 10, Real.exp (score A c g n (nth A c g n u) - M)) ≠ 0 :=
    (Finset.sum_pos (fun u _ => Real.exp_pos _) ⟨0, Finset.mem_univ _⟩).ne'
  simp only [values_at h, hM, ← EReal.coe_sub, Ideal.exp_coe, ← coe_sum, zero_add]
  rw [Ideal.div_coe hpos, ← EReal.coe_mul, EReal.coe_eq_coe_iff]
  exact shifted_weight (score A c g n) (list A c g n) M j

/-- A word of a position is not moved by the wrap of negative words. -/
theorem wrap_ofNat (k : ℕ) (hk : k < 512) (a : BitVec 32) :
    Scalar.select (IntOp.cmpi .slt (BitVec.ofNat 32 k) 0#32) a (BitVec.ofNat 32 k) = BitVec.ofNat 32 k := by
  refine Routing.wrap_of_lt _ _ ?_
  rw [BitVec.toNat_ofNat]
  omega

/-- A word of a position, read back. -/
theorem toInt_ofNat (k : ℕ) (hk : k < 512) : (BitVec.ofNat 32 k).toInt = k := by
  rw [BitVec.toInt_eq_toNat_of_lt (by rw [BitVec.toNat_ofNat]; omega), BitVec.toNat_ofNat, Nat.mod_eq_of_lt (by omega)]

/-- The index words of an entry of the softmax: its matrix, its row and its position. -/
theorem words_at (h : Reads A x0 x1 x2 x3 x4 x5 x6 x7 x8 x9 x10) (c : Fin 2) (g : Fin 16) (n : Fin 512) (j : Fin 10) :
    val_main_v85 (F := Ideal) x0 x1 x2 x3 x4 x5 x6 x7 x8 (ix4 (head c g) n j 0) = BitVec.ofNat 32 (head c g).val
      ∧ val_main_v85 (F := Ideal) x0 x1 x2 x3 x4 x5 x6 x7 x8 (ix4 (head c g) n j 1) = BitVec.ofNat 32 n.val
      ∧ val_main_v85 (F := Ideal) x0 x1 x2 x3 x4 x5 x6 x7 x8 (ix4 (head c g) n j 2) = BitVec.ofNat 32 (nth A c g n j).val := by
  refine ⟨?_, ?_, ?_⟩
  · pointwise [val_main_v85, val_main_v82, val_main_v80, val_main_v69, val_main_v68, val_main_v67, val_main_v66, val_main_v65, val_main_v61,
      val_main_v60, val_main_c, val_main_c_9]
    exact wrap_ofNat _ ((head c g).isLt.trans (by norm_num)) _
  · pointwise [val_main_v85, val_main_v83, val_main_v81, val_main_v74, val_main_v73, val_main_v72, val_main_v71, val_main_v70, val_main_v63,
      val_main_v62, val_main_c_10, val_main_c_11]
    exact wrap_ofNat _ n.isLt _
  · pointwise [val_main_v85, val_main_v84, val_main_v79, val_main_v78, val_main_v77, val_main_v76, val_main_v75, val_main_c_12, val_main_c_13]
    rw [indices_at h]
    exact wrap_ofNat _ (nth A c g n j).isLt _

/-- Every matrix of the stack belongs to an image and a group. -/
theorem head_surj (a : Fin 32) : ∃ c g, a = head c g :=
  ⟨⟨a.val / 16, by omega⟩, ⟨a.val % 16, by omega⟩, Fin.ext (by unfold head; simp only; omega)⟩

/-- Where an entry of the softmax lands. -/
theorem lands (h : Reads A x0 x1 x2 x3 x4 x5 x6 x7 x8 x9 x10) (c : Fin 2) (g : Fin 16) (n : Fin 512) (j : Fin 10) (p : Fin 32) (n' m : Fin 512) :
    Scatter.dims.resultIdx? (ix3 (head c g) n j) (val_main_v85 (F := Ideal) x0 x1 x2 x3 x4 x5 x6 x7 x8) = some (ix3 p n' m)
      ↔ head c g = p ∧ n = n' ∧ nth A c g n j = m := by
  obtain ⟨e0, e1, e2⟩ := words_at h c g n j
  rw [Scatter.lands_iff, e0, e1, e2, toInt_ofNat _ ((head c g).isLt.trans (by norm_num)), toInt_ofNat _ n.isLt, toInt_ofNat _ (nth A c g n j).isLt]
  simp only [Nat.cast_inj, Fin.ext_iff]

/-- The matrix the softmax is scattered into: a listed entry's weight over the sum of the ten, and zero elsewhere. -/
theorem matrix_at (h : Reads A x0 x1 x2 x3 x4 x5 x6 x7 x8 x9 x10) (c : Fin 2) (g : Fin 16) (n m : Fin 512) :
    val_main_v86 (F := Ideal) x0 x1 x2 x3 x4 x5 x6 x7 x8 (ix3 (head c g) n m)
      = ((weight (score A c g n) (list A c g n) m / total (score A c g n) (list A c g n) : ℝ) : EReal) := by
  have writers : ∀ k, Scatter.dims.resultIdx? k (val_main_v85 (F := Ideal) x0 x1 x2 x3 x4 x5 x6 x7 x8) = some (ix3 (head c g) n m) →
      ∃ j, k = ix3 (head c g) n j ∧ nth A c g n j = m := fun k hk => by
    obtain ⟨a, b, j, rfl⟩ : ∃ (a : Fin 32) (b : Fin 512) (j : Fin 10), k = ix3 a b j := ⟨k 0, k 1, k 2, eq_ix3 k⟩
    obtain ⟨c', g', rfl⟩ := head_surj a
    obtain ⟨e0, e1, e2⟩ := (lands h c' g' b j _ _ _).1 hk
    have hc : c' = c := Fin.ext (by have := congrArg Fin.val e0; unfold head at this; simp only at this; omega)
    have hg : g' = g := Fin.ext (by have := congrArg Fin.val e0; unfold head at this; simp only at this; omega)
    subst hc hg e1
    exact ⟨j, rfl, e2⟩
  unfold val_main_v86
  by_cases ht : Top (list A c g n) m
  · have hj : nth A c g n ⟨((list A c g n).symm m).val, ht⟩ = m := by
      unfold nth
      exact (list A c g n).apply_symm_apply m
    refine Routing.scatter_set_hit Scatter.dims _ _ _ _ _ (fun k hk => ?_) (ix3 (head c g) n ⟨((list A c g n).symm m).val, ht⟩)
      ((lands h c g n _ _ _ _).2 ⟨rfl, rfl, hj⟩)
    obtain ⟨j, rfl, e⟩ := writers k hk
    rw [weight_at h, e]
  · refine (Routing.scatter_set_miss Scatter.dims _ _ _ _ fun k hk => ?_).trans ?_
    · obtain ⟨j, -, e⟩ := writers k hk
      refine ht ?_
      rw [← e]
      unfold TopTen.Top nth
      rw [Equiv.symm_apply_apply]
      exact j.isLt
    · unfold weight
      rw [if_neg ht, zero_div]
      pointwise [val_main_v64, val_main_cst_8]
      rfl

end Cert.ReferenceIdeal.Softmax

end
-- ==== Proof.RefValue.lean ====
/- The reference's result, entry by entry. -/
module

public import proofs.«01_k».proof.Proof.RefSoftmax

@[expose] public section

set_option maxRecDepth 16384

noncomputable section

namespace Cert.ReferenceIdeal.Value

open Idealize.ShloMosaic Cert.ReferenceIdeal Cert.ReferenceIdeal.Read Cert.Model Cert.TopTen Cert.ReferenceIdeal.Softmax

variable {A : Args} {x0 : FVec Ideal S512x2x1024 .f32} {x1 : FVec Ideal S2x512x512x64 .f32} {x2 : FVec Ideal S2x512x512 .f32}
  {x3 : FVec Ideal S16x64 .f32} {x4 : FVec Ideal S16 .f32} {x5 : FVec Ideal S1024x1024 .f32} {x6 : FVec Ideal S1024 .f32}
  {x7 : FVec Ideal S1024x1024 .f32} {x8 : FVec Ideal S1024 .f32} {x9 : FVec Ideal S1024x1024x1x1 .f32} {x10 : FVec Ideal S1024 .f32}

/-- The features of an image averaged by a row's weights. -/
theorem context_at (h : Reads A x0 x1 x2 x3 x4 x5 x6 x7 x8 x9 x10) (c : Fin 2) (g : Fin 16) (n : Fin 512) (k : Fin 1024) :
    val_main_v93 (F := Ideal) x0 x1 x2 x3 x4 x5 x6 x7 x8 (ix4 g k n c)
      = ((∑ m, weight (score A c g n) (list A c g n) m / total (score A c g n) (list A c g n) * A.f m c k : ℝ) : EReal) := by
  pointwise [val_main_v93, val_main_v92, val_main_v91, val_main_v90, val_main_v89, val_main_v88, val_main_v87, val_main_v0]
  have e : ∀ hlt, (⟨c.val * 16 + (g.val * 512 + n.val) / 512, hlt⟩ : Fin 32) = head c g := fun _ => Fin.ext (by unfold head; simp only; omega)
  simp only [e, matrix_at h, h.f]
  rw [coe_sum]
  simp only [EReal.coe_mul]

/-- The result at a position, an image and a column. -/
theorem result_at (h : Reads A x0 x1 x2 x3 x4 x5 x6 x7 x8 x9 x10) (n : Fin 512) (c : Fin 2) (g : Fin 16) (d : Fin 64) :
    val_main_v101 (F := Ideal) x0 x1 x2 x3 x4 x5 x6 x7 x8 x9 x10 (ix3 n c (col g d))
      = ((mean A (list A c g n) c g n d : ℝ) : EReal) + A.bp (col g d) := by
  pointwise [val_main_v101, val_main_v100, val_main_v99, val_main_v98, val_main_v97, val_main_v96, val_main_v95, val_main_v94, col]
  simp only [context_at h, h.wp, h.bp, ← EReal.coe_mul, ← coe_sum]
  refine congrArg (fun r : ℝ => (r : EReal) + _) ?_
  unfold mean value col
  simp only [Finset.mul_sum]
  rw [Finset.sum_comm]
  refine Finset.sum_congr rfl fun m _ => Finset.sum_congr rfl fun k _ => ?_
  ring

end Cert.ReferenceIdeal.Value

end
-- ==== Proof.PreFacts.lean ====
/- What the precondition gives: real entries, and rows of scores whose ten largest entries are ranked strictly. -/
module

public import proofs.«01_k».proof.Proof.RefSoftmax
public import proofs.«01_k».proof.Pre_finite_no_ties

@[expose] public section

set_option maxRecDepth 16384

noncomputable section

namespace Cert.PreFacts

open Idealize.ShloMosaic Cert.ReferenceIdeal.Read Cert.Model Cert.TopTen Cert.TopK Cert.ReferenceIdeal.Softmax

/-- An entry whose absolute value is below infinity is a real. -/
theorem real_of_abs_lt {S : Shape} (x : FVec Ideal S .f32) (bc) (i : S.Idx)
    (h : cmpf .olt (Host.absf x) (broadcastInDim S ![] bc (constant (F := Ideal) Cert.Pre_finite_no_ties.S_ .f32 0x7F800000#32)) = fun _ => 1#1) :
    x i = ((x i).toReal : EReal) := by
  have e : Ideal.cmp .olt (max (x i) (-(x i))) (Ideal.ofBits .f32 0x7F800000#32) = 1#1 := congrFun h i
  rw [lit_top] at e
  have hlt : max (x i) (-(x i)) < ⊤ := by
    by_contra hn
    have : Ideal.cmp .olt (max (x i) (-(x i))) ⊤ = 0#1 := by
      show BitVec.ofBool (decide _) = _
      rw [decide_eq_false hn]
      rfl
    rw [this] at e
    exact absurd e (by decide)
  refine (EReal.coe_toReal (ne_top_of_lt (lt_of_le_of_lt (le_max_left _ _) hlt)) fun hb => ?_).symm
  rw [hb] at hlt
  simp at hlt

/-- A comparison that is one holds. -/
theorem above_of_cmp (a b : EReal) (h : Ideal.cmp .ogt a b = 1#1) : b < a := by
  by_contra hn
  have : Ideal.cmp .ogt a b = 0#1 := by
    show BitVec.ofBool (decide _) = _
    rw [decide_eq_false hn]
    rfl
  rw [this] at h
  exact absurd h (by decide)

/-- The arrays' entries as numbers. -/
def args (x0 : FVec Ideal Cert.ReferenceIdeal.S512x2x1024 .f32) (x1 : FVec Ideal Cert.ReferenceIdeal.S2x512x512x64 .f32)
    (x2 : FVec Ideal Cert.ReferenceIdeal.S2x512x512 .f32) (x3 : FVec Ideal Cert.ReferenceIdeal.S16x64 .f32)
    (x4 : FVec Ideal Cert.ReferenceIdeal.S16 .f32) (x5 : FVec Ideal Cert.ReferenceIdeal.S1024x1024 .f32)
    (x6 : FVec Ideal Cert.ReferenceIdeal.S1024 .f32) (x7 : FVec Ideal Cert.ReferenceIdeal.S1024x1024 .f32)
    (x8 : FVec Ideal Cert.ReferenceIdeal.S1024 .f32) (x9 : FVec Ideal Cert.ReferenceIdeal.S1024x1024x1x1 .f32)
    (x10 : FVec Ideal Cert.ReferenceIdeal.S1024 .f32) : Args where
  f n c k := EReal.toReal (x0 (ix3 n c k))
  pe c n m e := EReal.toReal (x1 (ix4 c n m e))
  over c n m := x2 (ix3 c n m)
  wg g e := EReal.toReal (x3 (ix2 g e))
  bg g := x4 (ix1 g)
  wk o k := EReal.toReal (x5 (ix2 o k))
  bk o := x6 (ix1 o)
  wq o k := EReal.toReal (x7 (ix2 o k))
  bq o := EReal.toReal (x8 (ix1 o))
  wp o k := EReal.toReal (x9 (ix4 o k 0 0))
  bp o := x10 (ix1 o)

variable [Cert.Pre_finite_no_ties.Facts] {x0 : FVec Ideal Cert.ReferenceIdeal.S512x2x1024 .f32} {x1 : FVec Ideal Cert.ReferenceIdeal.S2x512x512x64 .f32}
    {x2 : FVec Ideal Cert.ReferenceIdeal.S2x512x512 .f32} {x3 : FVec Ideal Cert.ReferenceIdeal.S16x64 .f32}
    {x4 : FVec Ideal Cert.ReferenceIdeal.S16 .f32} {x5 : FVec Ideal Cert.ReferenceIdeal.S1024x1024 .f32}
    {x6 : FVec Ideal Cert.ReferenceIdeal.S1024 .f32} {x7 : FVec Ideal Cert.ReferenceIdeal.S1024x1024 .f32}
    {x8 : FVec Ideal Cert.ReferenceIdeal.S1024 .f32} {x9 : FVec Ideal Cert.ReferenceIdeal.S1024x1024x1x1 .f32}
    {x10 : FVec Ideal Cert.ReferenceIdeal.S1024 .f32}

/-- The precondition on a launch's arrays: each of its eight arrays of bits is all ones. -/
structure Holds (x0 : FVec Ideal Cert.ReferenceIdeal.S512x2x1024 .f32) (x1 : FVec Ideal Cert.ReferenceIdeal.S2x512x512x64 .f32)
    (x2 : FVec Ideal Cert.ReferenceIdeal.S2x512x512 .f32) (x3 : FVec Ideal Cert.ReferenceIdeal.S16x64 .f32)
    (x4 : FVec Ideal Cert.ReferenceIdeal.S16 .f32) (x5 : FVec Ideal Cert.ReferenceIdeal.S1024x1024 .f32)
    (x6 : FVec Ideal Cert.ReferenceIdeal.S1024 .f32) (x7 : FVec Ideal Cert.ReferenceIdeal.S1024x1024 .f32)
    (x8 : FVec Ideal Cert.ReferenceIdeal.S1024 .f32) (x9 : FVec Ideal Cert.ReferenceIdeal.S1024x1024x1x1 .f32)
    (x10 : FVec Ideal Cert.ReferenceIdeal.S1024 .f32) : Prop where
  a0 : (Cert.Pre_finite_no_ties.fn (F := Ideal) x0 x1 x2 x3 x4 x5 x6 x7 x8 x9 x10).1 = fun _ => 1#1
  a1 : (Cert.Pre_finite_no_ties.fn (F := Ideal) x0 x1 x2 x3 x4 x5 x6 x7 x8 x9 x10).2.1 = fun _ => 1#1
  a3 : (Cert.Pre_finite_no_ties.fn (F := Ideal) x0 x1 x2 x3 x4 x5 x6 x7 x8 x9 x10).2.2.1 = fun _ => 1#1
  a5 : (Cert.Pre_finite_no_ties.fn (F := Ideal) x0 x1 x2 x3 x4 x5 x6 x7 x8 x9 x10).2.2.2.1 = fun _ => 1#1
  a7 : (Cert.Pre_finite_no_ties.fn (F := Ideal) x0 x1 x2 x3 x4 x5 x6 x7 x8 x9 x10).2.2.2.2.1 = fun _ => 1#1
  a8 : (Cert.Pre_finite_no_ties.fn (F := Ideal) x0 x1 x2 x3 x4 x5 x6 x7 x8 x9 x10).2.2.2.2.2.1 = fun _ => 1#1
  a9 : (Cert.Pre_finite_no_ties.fn (F := Ideal) x0 x1 x2 x3 x4 x5 x6 x7 x8 x9 x10).2.2.2.2.2.2.1 = fun _ => 1#1
  noTies : (Cert.Pre_finite_no_ties.fn (F := Ideal) x0 x1 x2 x3 x4 x5 x6 x7 x8 x9 x10).2.2.2.2.2.2.2 = fun _ => 1#1

/-- Under the precondition the arrays hold their entries as numbers. -/
theorem Holds.cells (h : Holds x0 x1 x2 x3 x4 x5 x6 x7 x8 x9 x10) :
    Cells (args x0 x1 x2 x3 x4 x5 x6 x7 x8 x9 x10) x0 x1 x2 x3 x4 x5 x6 x7 x8 x9 x10 where
  f n c k := real_of_abs_lt x0 _ _ h.a0
  pe c n m e := real_of_abs_lt x1 _ _ h.a1
  over _ _ _ := rfl
  wg g e := real_of_abs_lt x3 _ _ h.a3
  bg _ := rfl
  wk o k := real_of_abs_lt x5 _ _ h.a5
  bk _ := rfl
  wq o k := real_of_abs_lt x7 _ _ h.a7
  bq o := real_of_abs_lt x8 _ _ h.a8
  wp o k := real_of_abs_lt x9 _ _ h.a9
  bp _ := rfl

/-- The eleven largest scores of every row, as the precondition computes them. -/
abbrev eleven (x0 : FVec Ideal Cert.ReferenceIdeal.S512x2x1024 .f32) (x1 : FVec Ideal Cert.ReferenceIdeal.S2x512x512x64 .f32)
    (x2 : FVec Ideal Cert.ReferenceIdeal.S2x512x512 .f32) (x3 : FVec Ideal Cert.ReferenceIdeal.S16x64 .f32)
    (x4 : FVec Ideal Cert.ReferenceIdeal.S16 .f32) (x5 : FVec Ideal Cert.ReferenceIdeal.S1024x1024 .f32)
    (x6 : FVec Ideal Cert.ReferenceIdeal.S1024 .f32) (x7 : FVec Ideal Cert.ReferenceIdeal.S1024x1024 .f32)
    (x8 : FVec Ideal Cert.ReferenceIdeal.S1024 .f32) : FVec Ideal Cert.Pre_finite_no_ties.S32x512x11 .f32 :=
  (Host.topK Cert.Pre_finite_no_ties.S32x512x11 2 (Ideal.cmpTotal .gt) (val_main_v48 (F := Ideal) x0 x1 x2 x3 x4 x5 x6 x7 x8)
    Cert.Pre_finite_no_ties.Facts.sliceFits_S32x512x512_S32x512x11).1

/-- Ten of the eleven entries of a row, from entry `o` on. -/
theorem part_at (x : FVec Ideal Cert.Pre_finite_no_ties.S32x512x11 .f32) (o : ℕ) (hs) (p : Fin 32) (n : Fin 512) (j : Fin 10) (q : Fin 11)
    (hq : q.val = o + j.val) :
    extractStridedSlice Cert.Pre_finite_no_ties.S32x512x10 ![0, 0, o] x hs (ix3 p n j) = x (ix3 p n q) := by
  unfold extractStridedSlice
  refine congrArg x (funext fun a => Fin.ext ?_)
  fin_cases a
  · exact Nat.zero_add _
  · exact Nat.zero_add _
  · exact hq.symm

/-- Each of the ten largest scores of a row is above the next. -/
theorem Holds.above (h : Holds x0 x1 x2 x3 x4 x5 x6 x7 x8 x9 x10) (p : Fin 32) (n : Fin 512) (j : Fin 10) :
    eleven x0 x1 x2 x3 x4 x5 x6 x7 x8 (ix3 p n ⟨j.val + 1, by omega⟩) < eleven x0 x1 x2 x3 x4 x5 x6 x7 x8 (ix3 p n ⟨j.val, by omega⟩) := by
  have e : cmpf .ogt (extractStridedSlice Cert.Pre_finite_no_ties.S32x512x10 ![0, 0, 0] (eleven x0 x1 x2 x3 x4 x5 x6 x7 x8)
        Cert.Pre_finite_no_ties.Facts.slices_S32x512x11_S32x512x10_0_0_0)
      (extractStridedSlice Cert.Pre_finite_no_ties.S32x512x10 ![0, 0, 1] (eleven x0 x1 x2 x3 x4 x5 x6 x7 x8)
        Cert.Pre_finite_no_ties.Facts.slices_S32x512x11_S32x512x10_0_0_1) = fun _ => 1#1 := h.noTies
  have e' : Ideal.cmp .ogt (extractStridedSlice Cert.Pre_finite_no_ties.S32x512x10 ![0, 0, 0] (eleven x0 x1 x2 x3 x4 x5 x6 x7 x8)
        Cert.Pre_finite_no_ties.Facts.slices_S32x512x11_S32x512x10_0_0_0 (ix3 p n j))
      (extractStridedSlice Cert.Pre_finite_no_ties.S32x512x10 ![0, 0, 1] (eleven x0 x1 x2 x3 x4 x5 x6 x7 x8)
        Cert.Pre_finite_no_ties.Facts.slices_S32x512x11_S32x512x10_0_0_1 (ix3 p n j)) = 1#1 := congrFun e (ix3 p n j)
  rw [part_at _ 0 _ p n j ⟨j.val, by omega⟩ (Nat.zero_add _).symm, part_at _ 1 _ p n j ⟨j.val + 1, by omega⟩ (Nat.add_comm _ _)] at e'
  exact above_of_cmp _ _ e'

/-- Every row holds two different scores. -/
theorem Holds.varied (h : Holds x0 x1 x2 x3 x4 x5 x6 x7 x8 x9 x10) (c : Fin 2) (g : Fin 16) (n : Fin 512) :
    ∃ m m', rawScore (args x0 x1 x2 x3 x4 x5 x6 x7 x8 x9 x10) c g n m ≠ rawScore (args x0 x1 x2 x3 x4 x5 x6 x7 x8 x9 x10) c g n m' := by
  have e := h.above (head c g) n 0
  unfold eleven at e
  rw [(topK_at (by norm_num : 11 ≤ 512) _ _ _ _ _).1, (topK_at (by norm_num : 11 ≤ 512) _ _ _ _ _).1,
    Cert.ReferenceIdeal.Scores.rawScore_at h.cells, Cert.ReferenceIdeal.Scores.rawScore_at h.cells] at e
  exact ⟨_, _, e.ne⟩

/-- Under the precondition the arrays hold their entries as numbers, and their infinite biases do no harm. -/
theorem Holds.reads (h : Holds x0 x1 x2 x3 x4 x5 x6 x7 x8 x9 x10) :
    Reads (args x0 x1 x2 x3 x4 x5 x6 x7 x8 x9 x10) x0 x1 x2 x3 x4 x5 x6 x7 x8 x9 x10 :=
  ⟨h.cells, sound_of_varied h.varied⟩

/-- The rows of scores are ranked by the reference's lists, the ten largest strictly. -/
theorem Holds.ranked (h : Holds x0 x1 x2 x3 x4 x5 x6 x7 x8 x9 x10) (c : Fin 2) (g : Fin 16) (n : Fin 512) :
    Ranked (score (args x0 x1 x2 x3 x4 x5 x6 x7 x8 x9 x10) c g n) (list (args x0 x1 x2 x3 x4 x5 x6 x7 x8 x9 x10) c g n) := by
  have anti : ∀ i j : Fin 512, i ≤ j → ((score (args x0 x1 x2 x3 x4 x5 x6 x7 x8 x9 x10) c g n (list (args x0 x1 x2 x3 x4 x5 x6 x7 x8 x9 x10) c g n j) : ℝ) : EReal)
      ≤ ((score (args x0 x1 x2 x3 x4 x5 x6 x7 x8 x9 x10) c g n (list (args x0 x1 x2 x3 x4 x5 x6 x7 x8 x9 x10) c g n i) : ℝ) : EReal) := by
    unfold list
    exact order_anti fun m => ((score (args x0 x1 x2 x3 x4 x5 x6 x7 x8 x9 x10) c g n m : ℝ) : EReal)
  refine ⟨fun i j hij => EReal.coe_le_coe_iff.1 (anti i j hij), fun i j hij hi => EReal.coe_lt_coe_iff.1 ?_⟩
  have e := h.above (head c g) n ⟨i.val, hi⟩
  unfold eleven at e
  rw [(topK_at (by norm_num : 11 ≤ 512) _ _ _ _ _).1, (topK_at (by norm_num : 11 ≤ 512) _ _ _ _ _).1, row_eq h.reads, Cert.ReferenceIdeal.Scores.score_at h.reads,
    Cert.ReferenceIdeal.Scores.score_at h.reads] at e
  have hi' : i.val + 1 < 512 := by omega
  exact (anti ⟨i.val + 1, hi'⟩ j (Fin.le_def.2 hij)).trans_lt e

end Cert.PreFacts

end
-- ==== Proof.Equation.lean ====
/- The equation: under the precondition, the kernel's result array is the reference's. -/
module

public import proofs.«01_k».proof.Defs
public import proofs.«01_k».proof.Proof.KernelRun
public import proofs.«01_k».proof.Proof.RefValue
public import proofs.«01_k».proof.Proof.PreFacts

@[expose] public section

set_option maxRecDepth 16384

noncomputable section

namespace Cert.Equation

open Idealize.ShloMosaic Idealize.ShloMosaic.TcCoe
open Cert.Model Cert.ReferenceIdeal.Softmax

variable [Cert.Pre_finite_no_ties.Facts]

/-- A position of the result is a position, an image, a group and a feature of the group. -/
theorem split (i : Cert.ReferenceIdeal.S512x2x1024.Idx) :
    ∃ (n : Fin 512) (c : Fin 2) (g : Fin 16) (d : Fin 64), i = ix3 n c (col g d) := by
  have h2 : (i 2).val < 1024 := (i 2).isLt
  refine ⟨⟨(i 0).val, (i 0).isLt⟩, ⟨(i 1).val, (i 1).isLt⟩, ⟨(i 2).val / 64, by omega⟩, ⟨(i 2).val % 64, Nat.mod_lt _ (by norm_num)⟩, ?_⟩
  funext a
  fin_cases a
  · rfl
  · rfl
  · refine Fin.ext ?_
    show (i 2).val = (i 2).val / 64 * 64 + (i 2).val % 64
    omega

/-- The kernel's result array, as its run leaves it, is the reference's result of the same arguments: at every position both are
    the mean of the group's features weighted by the softmax of the ten highest scores, plus the bias. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_finite_no_ties m) (dev : Dev Cert.KernelIdeal.nD) :
    Cert.ReferenceIdeal.Read.val_main_v101 (F := Ideal)
      (m ((dev.tc : Thread Cert.KernelIdeal.nD Cert.KernelIdeal.τ).loc Cert.KernelIdeal.main_arg0))
      (m ((dev.tc : Thread Cert.KernelIdeal.nD Cert.KernelIdeal.τ).loc Cert.KernelIdeal.main_arg1))
      (m ((dev.tc : Thread Cert.KernelIdeal.nD Cert.KernelIdeal.τ).loc Cert.KernelIdeal.main_arg2))
      (m ((dev.tc : Thread Cert.KernelIdeal.nD Cert.KernelIdeal.τ).loc Cert.KernelIdeal.main_arg3))
      (m ((dev.tc : Thread Cert.KernelIdeal.nD Cert.KernelIdeal.τ).loc Cert.KernelIdeal.main_arg4))
      (m ((dev.tc : Thread Cert.KernelIdeal.nD Cert.KernelIdeal.τ).loc Cert.KernelIdeal.main_arg5))
      (m ((dev.tc : Thread Cert.KernelIdeal.nD Cert.KernelIdeal.τ).loc Cert.KernelIdeal.main_arg6))
      (m ((dev.tc : Thread Cert.KernelIdeal.nD Cert.KernelIdeal.τ).loc Cert.KernelIdeal.main_arg7))
      (m ((dev.tc : Thread Cert.KernelIdeal.nD Cert.KernelIdeal.τ).loc Cert.KernelIdeal.main_arg8))
      (m ((dev.tc : Thread Cert.KernelIdeal.nD Cert.KernelIdeal.τ).loc Cert.KernelIdeal.main_arg9))
      (m ((dev.tc : Thread Cert.KernelIdeal.nD Cert.KernelIdeal.τ).loc Cert.KernelIdeal.main_arg10))
      = Cert.KernelIdeal.Gen.W5 m ρ dev Cert.KernelIdeal.main_v0 := by
  obtain ⟨h0, h1, h3, h5, h7, h8, h9, hn⟩ := hpre dev
  have h : Cert.PreFacts.Holds _ _ _ _ _ _ _ _ _ _ _ := ⟨h0, h1, h3, h5, h7, h8, h9, hn⟩
  funext i
  obtain ⟨n, c, g, d, rfl⟩ := split i
  exact (Cert.ReferenceIdeal.Value.result_at h.reads n c g d).trans
    (Cert.KernelIdeal.Run.result_at m ρ dev h.reads (list _) (fun c g n => h.ranked c g n) n c g d).symm

end Cert.Equation

end
-- ==== Proof.lean ====
/- The proof of everything the certificate claims: the kernel runs as compiled and at exact arithmetic, its arguments untouched and
   its counters back at zero; the reference does too; the two spellings of the kernel differ only in the named constant; and at
   exact arithmetic the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_no_ties
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The one constant that the exact kernel spells by its value is the word the compiled kernel holds. -/
theorem preserves : Cert.preserves_Kernel_KernelIdeal :=
  IdealRules.named_const.statement Cert.KernelIdeal.κ "log_eps" .f32 0xC15D0C55#32 _ rfl

/-- At exact arithmetic the kernel and the reference end with the same result array. -/
theorem algebraic [Cert.Pre_finite_no_ties.Facts] :
    Cert.algebraic_KernelIdeal_ReferenceIdeal_pre_finite_no_ties (hKernelIdeal := Cert.KernelIdeal.Gen.facts)
      (hReferenceIdeal := Cert.ReferenceIdeal.Gen.facts) := by
  pair_intro
  · run_from Cert.KernelIdeal.Run.run m g
  · run_from Cert.ReferenceIdeal.Value.run m' g'
    rw [Cert.ReferenceIdeal.Read.val_main_v101_eq]
    obtain ⟨e0, e1, e2, e3, e4, e5, e6, e7, e8, e9, e10⟩ := hagree c
    rw [e0, e1, e2, e3, e4, e5, e6, e7, e8, e9, e10]
    exact Cert.Equation.result_eq m g hpre c

/-- The reference runs, its arguments end as launched, and its counters end at zero, for it has none. -/
theorem reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Everything claimed. -/
theorem claim : Cert.Claim :=
  ⟨Cert.Kernel.Gen.facts, Cert.KernelIdeal.Gen.facts, Cert.ReferenceIdeal.Gen.facts, Cert.Pre_finite_no_ties.Gen.facts,
    fun m g _ => Cert.Kernel.Gen.frame m g, fun m g _ => Cert.KernelIdeal.Gen.frame m g, fun m g _ => Cert.KernelIdeal.Gen.frame m g,
    reference, fun m g _ => reference m g trivial, preserves, algebraic⟩

end Cert.Proof

end
